-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pack.Statement Cert.KernelIdeal.S192x196
  ∧ IdealRules.named_const.Statement Cert.KernelIdeal.κ "inv_t" .f32 0x3BA72F05#32 ((1 / 196 : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ preserves_Kernel_KernelIdeal
    ∧ algebraic_KernelIdeal_ReferenceIdeal_pre_finite_qk (hKernelIdeal := hKernelIdeal) (hReferenceIdeal := hReferenceIdeal) (hPre_finite_qk := hPre_finite_qk)
-- ==== Pre_finite_qk.lean ====
abbrev S2x96x224x224 : Shape := ⟨4, ![2, 96, 224, 224]⟩
abbrev S_ : Shape := ⟨0, ![]⟩

class Facts : Prop where
  bcast_S_S2x96x224x224 : S_.BroadcastsInDim S2x96x224x224 (![] : Fin 0 → Fin S2x96x224x224.rank)
  reducesTo_S2x96x224x224_S_d0_1_2_3 : S2x96x224x224.ReducesTo [0, 1, 2, 3] S_
  h_S_ : 0 < S_.numel

variable [Facts]

def fn {F : FTy → Type} [FloatOps F] (main_arg0 : FVec F S2x96x224x224 .f32) (main_arg1 : FVec F S2x96x224x224 .f32) (main_arg2 : FVec F S2x96x224x224 .f32) : IVec S_ 1 :=
  let main_v0 : FVec F S2x96x224x224 .f32 := Host.absf main_arg0
  let main_cst : FVec F S_ .f32 := constant S_ .f32 0x7F800000#32
  let main_v1 : FVec F S2x96x224x224 .f32 := broadcastInDim S2x96x224x224 ![] bcast_S_S2x96x224x224 main_cst
  let main_v2 : IVec S2x96x224x224 1 := cmpf .olt main_v0 main_v1
  let main_c : IVec S_ 1 := constantI S_ 1 1#1
  let main_v3 : IVec S_ 1 := (fun x v => Host.reduce IntOp.andi x v reducesTo_S2x96x224x224_S_d0_1_2_3 h_S_) main_v2 main_c
  let main_v4 : FVec F S2x96x224x224 .f32 := Host.absf main_arg1
  let main_cst_0 : FVec F S_ .f32 := constant S_ .f32 0x7F800000#32
  let main_v5 : FVec F S2x96x224x224 .f32 := broadcastInDim S2x96x224x224 ![] bcast_S_S2x96x224x224 main_cst_0
  let main_v6 : IVec S2x96x224x224 1 := cmpf .olt main_v4 main_v5
  let main_c_1 : IVec S_ 1 := constantI S_ 1 1#1
  let main_v7 : IVec S_ 1 := (fun x v => Host.reduce IntOp.andi x v reducesTo_S2x96x224x224_S_d0_1_2_3 h_S_) main_v6 main_c_1
  let main_v8 : IVec S_ 1 := andi main_v3 main_v7
  main_v8
-- ==== Kernel.lean ====
abbrev S2x96x224x224 : Shape := ⟨4, ![2, 96, 224, 224]⟩
abbrev S2x96x16x14x16x14 : Shape := ⟨6, ![2, 96, 16, 14, 16, 14]⟩
abbrev S2x16x16x96x14x14 : Shape := ⟨6, ![2, 16, 16, 96, 14, 14]⟩
abbrev S2x256x96x196 : Shape := ⟨4, ![2, 256, 96, 196]⟩
abbrev S2x256x96 : Shape := ⟨3, ![2, 256, 96]⟩
abbrev S2x256x96x99 : Shape := ⟨4, ![2, 256, 96, 99]⟩
abbrev S1x16x96x196 : Shape := ⟨4, ![1, 16, 96, 196]⟩
abbrev S1x16x96 : Shape := ⟨3, ![1, 16, 96]⟩
abbrev S1x16x96x99 : Shape := ⟨4, ![1, 16, 96, 99]⟩
abbrev S1x196 : Shape := ⟨2, ![1, 196]⟩
abbrev S1x1x96x196 : Shape := ⟨4, ![1, 1, 96, 196]⟩
abbrev S96x196 : Shape := ⟨2, ![96, 196]⟩
abbrev S97x196 : Shape := ⟨2, ![97, 196]⟩
abbrev S96x97 : Shape := ⟨2, ![96, 97]⟩
abbrev S96x96 : Shape := ⟨2, ![96, 96]⟩
abbrev S96x3 : Shape := ⟨2, ![96, 3]⟩
abbrev S96x1 : Shape := ⟨2, ![96, 1]⟩
abbrev S96x99 : Shape := ⟨2, ![96, 99]⟩
abbrev S1x1x96x99 : Shape := ⟨4, ![1, 1, 96, 99]⟩
abbrev S192x196 : Shape := ⟨2, ![192, 196]⟩
abbrev S672x196 : Shape := ⟨2, ![672, 196]⟩
abbrev S1x672 : Shape := ⟨2, ![1, 672]⟩
abbrev S1x96 : Shape := ⟨2, ![1, 96]⟩
abbrev S1x1x96 : Shape := ⟨3, ![1, 1, 96]⟩
abbrev S2x256x9504 : Shape := ⟨3, ![2, 256, 9504]⟩
abbrev S2x96x99 : Shape := ⟨3, ![2, 96, 99]⟩
abbrev S1x256x96 : Shape := ⟨3, ![1, 256, 96]⟩
abbrev S1x256x9504 : Shape := ⟨3, ![1, 256, 9504]⟩
abbrev S1x96x99 : Shape := ⟨3, ![1, 96, 99]⟩
abbrev S256x96 : Shape := ⟨2, ![256, 96]⟩
abbrev S256x256 : Shape := ⟨2, ![256, 256]⟩
abbrev S256 : Shape := ⟨1, ![256]⟩
abbrev S256x1 : Shape := ⟨2, ![256, 1]⟩
abbrev S256x97 : Shape := ⟨2, ![256, 97]⟩
abbrev S256x9504 : Shape := ⟨2, ![256, 9504]⟩
abbrev S1x8x96x196 : Shape := ⟨4, ![1, 8, 96, 196]⟩
abbrev S1x8x96x99 : Shape := ⟨4, ![1, 8, 96, 99]⟩
abbrev S3x96 : Shape := ⟨2, ![3, 96]⟩
abbrev S99x196 : Shape := ⟨2, ![99, 196]⟩
abbrev S3x196 : Shape := ⟨2, ![3, 196]⟩

abbrev nBuf : Space → Nat
  | .hbm => 24
  | .vmem => 34
  | .smem => 0
  | _ => 0

abbrev bufTy : (tb : Table) → Fin (tcTables nBuf tb) → BufTy
  | .hbm, ⟨0, _⟩ => ⟨S2x96x224x224, .f32⟩
  | .hbm, ⟨1, _⟩ => ⟨S2x96x224x224, .f32⟩
  | .hbm, ⟨2, _⟩ => ⟨S2x96x224x224, .f32⟩
  | .hbm, ⟨3, _⟩ => ⟨S2x96x16x14x16x14, .f32⟩
  | .hbm, ⟨4, _⟩ => ⟨S2x16x16x96x14x14, .f32⟩
  | .hbm, ⟨5, _⟩ => ⟨S2x256x96x196, .f32⟩
  | .hbm, ⟨6, _⟩ => ⟨S2x96x16x14x16x14, .f32⟩
  | .hbm, ⟨7, _⟩ => ⟨S2x16x16x96x14x14, .f32⟩
  | .hbm, ⟨8, _⟩ => ⟨S2x256x96x196, .f32⟩
  | .hbm, ⟨9, _⟩ => ⟨S2x96x16x14x16x14, .f32⟩
  | .hbm, ⟨10, _⟩ => ⟨S2x16x16x96x14x14, .f32⟩
  | .hbm, ⟨11, _⟩ => ⟨S2x256x96x196, .f32⟩
  | .hbm, ⟨12, _⟩ => ⟨S2x256x96, .f32⟩
  | .hbm, ⟨13, _⟩ => ⟨S2x256x96, .f32⟩
  | .hbm, ⟨14, _⟩ => ⟨S2x256x96, .f32⟩
  | .hbm, ⟨15, _⟩ => ⟨S2x256x96x99, .f32⟩
  | .hbm, ⟨16, _⟩ => ⟨S2x256x9504, .f32⟩
  | .hbm, ⟨17, _⟩ => ⟨S2x256x9504, .f32⟩
  | .hbm, ⟨18, _⟩ => ⟨S2x96x99, .f32⟩
  | .hbm, ⟨19, _⟩ => ⟨S2x256x96x99, .f32⟩
  | .hbm, ⟨20, _⟩ => ⟨S2x256x96x196, .f32⟩
  | .hbm, ⟨21, _⟩ => ⟨S2x16x16x96x14x14, .f32⟩
  | .hbm, ⟨22, _⟩ => ⟨S2x96x16x14x16x14, .f32⟩
  | .hbm, ⟨23, _⟩ => ⟨S2x96x224x224, .f32⟩
  | .local _ .vmem, ⟨0, _⟩ => ⟨S1x16x96x196, .f32⟩
  | .local _ .vmem, ⟨1, _⟩ => ⟨S1x16x96x196, .f32⟩
  | .local _ .vmem, ⟨2, _⟩ => ⟨S1x16x96x196, .f32⟩
  | .local _ .vmem, ⟨3, _⟩ => ⟨S1x16x96x196, .f32⟩
  | .local _ .vmem, ⟨4, _⟩ => ⟨S1x16x96x196, .f32⟩
  | .local _ .vmem, ⟨5, _⟩ => ⟨S1x16x96x196, .f32⟩
  | .local _ .vmem, ⟨6, _⟩ => ⟨S1x16x96, .f32⟩
  | .local _ .vmem, ⟨7, _⟩ => ⟨S1x16x96, .f32⟩
  | .local _ .vmem, ⟨8, _⟩ => ⟨S1x16x96, .f32⟩
  | .local _ .vmem, ⟨9, _⟩ => ⟨S1x16x96, .f32⟩
  | .local _ .vmem, ⟨10, _⟩ => ⟨S1x16x96, .f32⟩
  | .local _ .vmem, ⟨11, _⟩ => ⟨S1x16x96, .f32⟩
  | .local _ .vmem, ⟨12, _⟩ => ⟨S1x16x96x99, .f32⟩
  | .local _ .vmem, ⟨13, _⟩ => ⟨S1x16x96x99, .f32⟩
  | .local _ .vmem, ⟨14, _⟩ => ⟨S1x256x96, .f32⟩
  | .local _ .vmem, ⟨15, _⟩ => ⟨S1x256x96, .f32⟩
  | .local _ .vmem, ⟨16, _⟩ => ⟨S1x256x96, .f32⟩
  | .local _ .vmem, ⟨17, _⟩ => ⟨S1x256x96, .f32⟩
  | .local _ .vmem, ⟨18, _⟩ => ⟨S1x256x96, .f32⟩
  | .local _ .vmem, ⟨19, _⟩ => ⟨S1x256x96, .f32⟩
  | .local _ .vmem, ⟨20, _⟩ => ⟨S1x256x9504, .f32⟩
  | .local _ .vmem, ⟨21, _⟩ => ⟨S1x256x9504, .f32⟩
  | .local _ .vmem, ⟨22, _⟩ => ⟨S1x256x9504, .f32⟩
  | .local _ .vmem, ⟨23, _⟩ => ⟨S1x256x9504, .f32⟩
  | .local _ .vmem, ⟨24, _⟩ => ⟨S1x96x99, .f32⟩
  | .local _ .vmem, ⟨25, _⟩ => ⟨S1x96x99, .f32⟩
  | .local _ .vmem, ⟨26, _⟩ => ⟨S1x8x96x196, .f32⟩
  | .local _ .vmem, ⟨27, _⟩ => ⟨S1x8x96x196, .f32⟩
  | .local _ .vmem, ⟨28, _⟩ => ⟨S1x8x96x99, .f32⟩
  | .local _ .vmem, ⟨29, _⟩ => ⟨S1x8x96x99, .f32⟩
  | .local _ .vmem, ⟨30, _⟩ => ⟨S1x96x99, .f32⟩
  | .local _ .vmem, ⟨31, _⟩ => ⟨S1x96x99, .f32⟩
  | .local _ .vmem, ⟨32, _⟩ => ⟨S1x8x96x196, .f32⟩
  | .local _ .vmem, ⟨33, _⟩ => ⟨S1x8x96x196, .f32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v9_3 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33

abbrev nD : Nat := 1
abbrev τ : Topo := Topo.v7x

variable {F : FTy → Type} [BitOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x96x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x96x196 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x96x196 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x96x99 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x9504 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x9504 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x96x99 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 32], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x8x96x196 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x8x96x99 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x96x99 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x8x96x196 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== KernelIdeal.lean ====
variable {F : FTy → Type} [FloatOps F] [Named F]
def κ : String → Option EReal := fun
  | "inv_t" => some ((1 / 196 : ℝ) : EReal)
  | _ => none
-- ==== ReferenceIdeal.lean ====
abbrev S2x96x224x224 : Shape := ⟨4, ![2, 96, 224, 224]⟩
abbrev S2x96x16x14x16x14 : Shape := ⟨6, ![2, 96, 16, 14, 16, 14]⟩
abbrev S2x16x16x14x14x96 : Shape := ⟨6, ![2, 16, 16, 14, 14, 96]⟩
abbrev S2x256x196x96 : Shape := ⟨4, ![2, 256, 196, 96]⟩
abbrev S_ : Shape := ⟨0, ![]⟩
abbrev S2x256x96 : Shape := ⟨3, ![2, 256, 96]⟩
abbrev S2x256x256 : Shape := ⟨3, ![2, 256, 256]⟩
abbrev S2x256x8 : Shape := ⟨3, ![2, 256, 8]⟩
abbrev S2x256x8x1 : Shape := ⟨4, ![2, 256, 8, 1]⟩
abbrev S2x256x8x196x96 : Shape := ⟨5, ![2, 256, 8, 196, 96]⟩
abbrev S2x256x1568x96 : Shape := ⟨4, ![2, 256, 1568, 96]⟩
abbrev S2x1x256x96 : Shape := ⟨4, ![2, 1, 256, 96]⟩
abbrev S2x256x256x96 : Shape := ⟨4, ![2, 256, 256, 96]⟩
abbrev S2x256x1824x96 : Shape := ⟨4, ![2, 256, 1824, 96]⟩
abbrev S512x196x3x32 : Shape := ⟨4, ![512, 196, 3, 32]⟩
abbrev S512x1824x3x32 : Shape := ⟨4, ![512, 1824, 3, 32]⟩
abbrev S512x3x32x32 : Shape := ⟨4, ![512, 3, 32, 32]⟩
abbrev S512x3x32 : Shape := ⟨3, ![512, 3, 32]⟩
abbrev S512x3x196 : Shape := ⟨3, ![512, 3, 196]⟩
abbrev S512x196x3 : Shape := ⟨3, ![512, 196, 3]⟩
abbrev S512x3x32x196 : Shape := ⟨4, ![512, 3, 32, 196]⟩
abbrev S512x196x3x1 : Shape := ⟨4, ![512, 196, 3, 1]⟩
abbrev S2x16x16x14x14x3x32 : Shape := ⟨7, ![2, 16, 16, 14, 14, 3, 32]⟩
abbrev S2x3x32x16x14x16x14 : Shape := ⟨7, ![2, 3, 32, 16, 14, 16, 14]⟩

abbrev nBuf : Space → Nat
  | .hbm => 120
  | .vmem => 0
  | .smem => 0
  | _ => 0

abbrev bufTy : (tb : Table) → Fin (tcTables nBuf tb) → BufTy
  | .hbm, ⟨0, _⟩ => ⟨S2x96x224x224, .f32⟩
  | .hbm, ⟨1, _⟩ => ⟨S2x96x224x224, .f32⟩
  | .hbm, ⟨2, _⟩ => ⟨S2x96x224x224, .f32⟩
  | .hbm, ⟨3, _⟩ => ⟨S2x96x16x14x16x14, .f32⟩
  | .hbm, ⟨4, _⟩ => ⟨S2x16x16x14x14x96, .f32⟩
  | .hbm, ⟨5, _⟩ => ⟨S2x256x196x96, .f32⟩
  | .hbm, ⟨6, _⟩ => ⟨S2x96x16x14x16x14, .f32⟩
  | .hbm, ⟨7, _⟩ => ⟨S2x16x16x14x14x96, .f32⟩
  | .hbm, ⟨8, _⟩ => ⟨S2x256x196x96, .f32⟩
  | .hbm, ⟨9, _⟩ => ⟨S2x96x16x14x16x14, .f32⟩
  | .hbm, ⟨10, _⟩ => ⟨S2x16x16x14x14x96, .f32⟩
  | .hbm, ⟨11, _⟩ => ⟨S2x256x196x96, .f32⟩
  | .hbm, ⟨12, _⟩ => ⟨S_, .f32⟩
  | .hbm, ⟨13, _⟩ => ⟨S2x256x96, .f32⟩
  | .hbm, ⟨14, _⟩ => ⟨S_, .f32⟩
  | .hbm, ⟨15, _⟩ => ⟨S2x256x96, .f32⟩
  | .hbm, ⟨16, _⟩ => ⟨S2x256x96, .f32⟩
  | .hbm, ⟨17, _⟩ => ⟨S_, .f32⟩
  | .hbm, ⟨18, _⟩ => ⟨S2x256x96, .f32⟩
  | .hbm, ⟨19, _⟩ => ⟨S_, .f32⟩
  | .hbm, ⟨20, _⟩ => ⟨S2x256x96, .f32⟩
  | .hbm, ⟨21, _⟩ => ⟨S2x256x96, .f32⟩
  | .hbm, ⟨22, _⟩ => ⟨S_, .f32⟩
  | .hbm, ⟨23, _⟩ => ⟨S2x256x96, .f32⟩
  | .hbm, ⟨24, _⟩ => ⟨S_, .f32⟩
  | .hbm, ⟨25, _⟩ => ⟨S2x256x96, .f32⟩
  | .hbm, ⟨26, _⟩ => ⟨S2x256x96, .f32⟩
  | .hbm, ⟨27, _⟩ => ⟨S2x256x256, .f32⟩
  | .hbm, ⟨28, _⟩ => ⟨S2x256x8, .f32⟩
  | .hbm, ⟨29, _⟩ => ⟨S2x256x8, .i32⟩
  | .hbm, ⟨30, _⟩ => ⟨S_, .i32⟩
  | .hbm, ⟨31, _⟩ => ⟨S2x256x8, .i32⟩
  | .hbm, ⟨32, _⟩ => ⟨S2x256x8, .i1⟩
  | .hbm, ⟨33, _⟩ => ⟨S_, .i32⟩
  | .hbm, ⟨34, _⟩ => ⟨S2x256x8, .i32⟩
  | .hbm, ⟨35, _⟩ => ⟨S2x256x8, .i32⟩
  | .hbm, ⟨36, _⟩ => ⟨S2x256x8, .i32⟩
  | .hbm, ⟨37, _⟩ => ⟨S2x256x8x1, .i32⟩
  | .hbm, ⟨38, _⟩ => ⟨S2x256x8x196x96, .f32⟩
  | .hbm, ⟨39, _⟩ => ⟨S2x256x1568x96, .f32⟩
  | .hbm, ⟨40, _⟩ => ⟨S_, .i32⟩
  | .hbm, ⟨41, _⟩ => ⟨S2x256x8, .i32⟩
  | .hbm, ⟨42, _⟩ => ⟨S2x256x8, .i1⟩
  | .hbm, ⟨43, _⟩ => ⟨S_, .i32⟩
  | .hbm, ⟨44, _⟩ => ⟨S2x256x8, .i32⟩
  | .hbm, ⟨45, _⟩ => ⟨S2x256x8, .i32⟩
  | .hbm, ⟨46, _⟩ => ⟨S2x256x8, .i32⟩
  | .hbm, ⟨47, _⟩ => ⟨S2x256x8x1, .i32⟩
  | .hbm, ⟨48, _⟩ => ⟨S2x256x8x196x96, .f32⟩
  | .hbm, ⟨49, _⟩ => ⟨S2x256x1568x96, .f32⟩
  | .hbm, ⟨50, _⟩ => ⟨S2x1x256x96, .f32⟩
  | .hbm, ⟨51, _⟩ => ⟨S2x256x256x96, .f32⟩
  | .hbm, ⟨52, _⟩ => ⟨S2x1x256x96, .f32⟩
  | .hbm, ⟨53, _⟩ => ⟨S2x256x256x96, .f32⟩
  | .hbm, ⟨54, _⟩ => ⟨S2x256x1824x96, .f32⟩
  | .hbm, ⟨55, _⟩ => ⟨S2x256x1824x96, .f32⟩
  | .hbm, ⟨56, _⟩ => ⟨S512x196x3x32, .f32⟩
  | .hbm, ⟨57, _⟩ => ⟨S512x1824x3x32, .f32⟩
  | .hbm, ⟨58, _⟩ => ⟨S512x1824x3x32, .f32⟩
  | .hbm, ⟨59, _⟩ => ⟨S_, .f32⟩
  | .hbm, ⟨60, _⟩ => ⟨S512x196x3x32, .f32⟩
  | .hbm, ⟨61, _⟩ => ⟨S512x196x3x32, .i1⟩
  | .hbm, ⟨62, _⟩ => ⟨S_, .f32⟩
  | .hbm, ⟨63, _⟩ => ⟨S512x196x3x32, .f32⟩
  | .hbm, ⟨64, _⟩ => ⟨S512x196x3x32, .i1⟩
  | .hbm, ⟨65, _⟩ => ⟨S_, .f32⟩
  | .hbm, ⟨66, _⟩ => ⟨S_, .f32⟩
  | .hbm, ⟨67, _⟩ => ⟨S512x196x3x32, .f32⟩
  | .hbm, ⟨68, _⟩ => ⟨S512x196x3x32, .f32⟩
  | .hbm, ⟨69, _⟩ => ⟨S512x196x3x32, .f32⟩
  | .hbm, ⟨70, _⟩ => ⟨S_, .f32⟩
  | .hbm, ⟨71, _⟩ => ⟨S512x196x3x32, .f32⟩
  | .hbm, ⟨72, _⟩ => ⟨S512x196x3x32, .f32⟩
  | .hbm, ⟨73, _⟩ => ⟨S512x196x3x32, .f32⟩
  | .hbm, ⟨74, _⟩ => ⟨S_, .f32⟩
  | .hbm, ⟨75, _⟩ => ⟨S512x196x3x32, .f32⟩
  | .hbm, ⟨76, _⟩ => ⟨S512x196x3x32, .f32⟩
  | .hbm, ⟨77, _⟩ => ⟨S_, .f32⟩
  | .hbm, ⟨78, _⟩ => ⟨S512x1824x3x32, .f32⟩
  | .hbm, ⟨79, _⟩ => ⟨S512x1824x3x32, .i1⟩
  | .hbm, ⟨80, _⟩ => ⟨S_, .f32⟩
  | .hbm, ⟨81, _⟩ => ⟨S512x1824x3x32, .f32⟩
  | .hbm, ⟨82, _⟩ => ⟨S512x1824x3x32, .i1⟩
  | .hbm, ⟨83, _⟩ => ⟨S_, .f32⟩
  | .hbm, ⟨84, _⟩ => ⟨S_, .f32⟩
  | .hbm, ⟨85, _⟩ => ⟨S512x1824x3x32, .f32⟩
  | .hbm, ⟨86, _⟩ => ⟨S512x1824x3x32, .f32⟩
  | .hbm, ⟨87, _⟩ => ⟨S512x1824x3x32, .f32⟩
  | .hbm, ⟨88, _⟩ => ⟨S_, .f32⟩
  | .hbm, ⟨89, _⟩ => ⟨S512x1824x3x32, .f32⟩
  | .hbm, ⟨90, _⟩ => ⟨S512x1824x3x32, .f32⟩
  | .hbm, ⟨91, _⟩ => ⟨S512x1824x3x32, .f32⟩
  | .hbm, ⟨92, _⟩ => ⟨S_, .f32⟩
  | .hbm, ⟨93, _⟩ => ⟨S512x1824x3x32, .f32⟩
  | .hbm, ⟨94, _⟩ => ⟨S512x1824x3x32, .f32⟩
  | .hbm, ⟨95, _⟩ => ⟨S_, .f32⟩
  | .hbm, ⟨96, _⟩ => ⟨S512x1824x3x32, .f32⟩
  | .hbm, ⟨97, _⟩ => ⟨S512x1824x3x32, .f32⟩
  | .hbm, ⟨98, _⟩ => ⟨S512x3x32x32, .f32⟩
  | .hbm, ⟨99, _⟩ => ⟨S_, .f32⟩
  | .hbm, ⟨100, _⟩ => ⟨S512x3x32, .f32⟩
  | .hbm, ⟨101, _⟩ => ⟨S512x3x196, .f32⟩
  | .hbm, ⟨102, _⟩ => ⟨S512x196x3, .f32⟩
  | .hbm, ⟨103, _⟩ => ⟨S_, .f32⟩
  | .hbm, ⟨104, _⟩ => ⟨S512x196x3, .f32⟩
  | .hbm, ⟨105, _⟩ => ⟨S512x196x3, .f32⟩
  | .hbm, ⟨106, _⟩ => ⟨S_, .f32⟩
  | .hbm, ⟨107, _⟩ => ⟨S512x196x3, .f32⟩
  | .hbm, ⟨108, _⟩ => ⟨S512x196x3, .f32⟩
  | .hbm, ⟨109, _⟩ => ⟨S512x3x32x196, .f32⟩
  | .hbm, ⟨110, _⟩ => ⟨S512x196x3x32, .f32⟩
  | .hbm, ⟨111, _⟩ => ⟨S512x196x3x1, .f32⟩
  | .hbm, ⟨112, _⟩ => ⟨S512x196x3x32, .f32⟩
  | .hbm, ⟨113, _⟩ => ⟨S512x196x3x32, .f32⟩
  | .hbm, ⟨114, _⟩ => ⟨S_, .f32⟩
  | .hbm, ⟨115, _⟩ => ⟨S512x196x3x32, .f32⟩
  | .hbm, ⟨116, _⟩ => ⟨S512x196x3x32, .f32⟩
  | .hbm, ⟨117, _⟩ => ⟨S2x16x16x14x14x3x32, .f32⟩
  | .hbm, ⟨118, _⟩ => ⟨S2x3x32x16x14x16x14, .f32⟩
  | .hbm, ⟨119, _⟩ => ⟨S2x96x224x224, .f32⟩
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_values : Ref sig .tc := ⟨.hbm, 28, rfl⟩
abbrev main_indices : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_cst_1 : Ref sig .tc := ⟨.hbm, 65, rfl⟩
abbrev main_call0_call0_v0 : Ref sig .tc := ⟨.hbm, 66, rfl⟩
abbrev main_call0_call0_v1 : Ref sig .tc := ⟨.hbm, 67, rfl⟩
abbrev main_call0_v4 : Ref sig .tc := ⟨.hbm, 68, rfl⟩
abbrev main_call0_v5 : Ref sig .tc := ⟨.hbm, 69, rfl⟩
abbrev main_call0_cst_2 : Ref sig .tc := ⟨.hbm, 70, rfl⟩
abbrev main_call0_v6 : Ref sig .tc := ⟨.hbm, 71, rfl⟩
abbrev main_call0_v7 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_call1_cst_1 : Ref sig .tc := ⟨.hbm, 83, rfl⟩
abbrev main_call1_call0_v0 : Ref sig .tc := ⟨.hbm, 84, rfl⟩
abbrev main_call1_call0_v1 : Ref sig .tc := ⟨.hbm, 85, rfl⟩
abbrev main_call1_v4 : Ref sig .tc := ⟨.hbm, 86, rfl⟩
abbrev main_call1_v5 : Ref sig .tc := ⟨.hbm, 87, rfl⟩
abbrev main_call1_cst_2 : Ref sig .tc := ⟨.hbm, 88, rfl⟩
abbrev main_call1_v6 : Ref sig .tc := ⟨.hbm, 89, rfl⟩
abbrev main_call1_v7 : Ref sig .tc := ⟨.hbm, 90, rfl⟩
abbrev main_v47 : Ref sig .tc := ⟨.hbm, 91, rfl⟩
abbrev main_cst_9 : Ref sig .tc := ⟨.hbm, 92, rfl⟩
abbrev main_v48 : Ref sig .tc := ⟨.hbm, 93, rfl⟩
abbrev main_v49 : Ref sig .tc := ⟨.hbm, 94, rfl⟩
abbrev main_cst_10 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_cst_11 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_12 : Ref sig .tc := ⟨.hbm, 103, rfl⟩
abbrev main_v56 : Ref sig .tc := ⟨.hbm, 104, rfl⟩
abbrev main_v57 : Ref sig .tc := ⟨.hbm, 105, rfl⟩
abbrev main_cst_13 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_14 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel, floats as bit patterns, runs from any launch memory, leaves its three arguments unchanged and every
    semaphore counter at zero. -/
theorem frame_kernel : Cert.quiescent_Kernel := fun m ρ _ => Cert.Kernel.Gen.frame m ρ

/-- The same of the kernel over the extended reals. -/
theorem frame_kernelIdeal : Cert.quiescent_KernelIdeal := fun m ρ _ => Cert.KernelIdeal.Gen.frame m ρ

/-- The reference over the extended reals, from any launch memory: it runs, keeps its arguments, and every counter
    ends at zero, since it declares no semaphore. -/
theorem run_referenceIdeal (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The reference over the extended reals runs and keeps its arguments, every counter ending at zero. -/
theorem frame_referenceIdeal : Cert.quiescent_ReferenceIdeal := fun m g _ => run_referenceIdeal m g

/-- Each rewrite that makes the kernel over the extended reals from the printed kernel is a sanctioned one: the
    three-way split's bf16 words, and the named constant 1/196. -/
theorem preserves : Cert.preserves_Kernel_KernelIdeal :=
  ⟨IdealRules.bf16_pack.statement Cert.KernelIdeal.S192x196,
   IdealRules.named_const.statement Cert.KernelIdeal.κ "inv_t" .f32 0x3BA72F05#32 ((1 / 196 : ℝ) : EReal) rfl⟩

end Cert.Proof

end
-- ==== Proof.StatsPieces.lean ====
module

public import proofs.«01_k».proof.Proof.Gen.KernelIdeal.Frame

@[expose] public section

set_option maxRecDepth 16384

noncomputable section

namespace Cert.Proof.Stats

open Idealize.ShloMosaic Cert.KernelIdeal Cert.KernelIdeal.Gen

variable {F : FTy → Type} [FloatOps F] [Named F]

/-! The first call handles sixteen windows a step, each in the same way. What it does to one window is named here, and
    what the call leaves in its four staging buffers is stated window by window. -/

/-- The row sums of one window: the three-way split of the query and key rows, and the value rows, each summed over the window. -/
def rowSums (q k v : Vec F S1x1x96x196 .f32) : FVec F S1x672 .f32 :=
  k0_pay17 (k0_pay4 (F := F)) (k0_pay5 q) (k0_pay6 k) (k0_pay7 v)

/-- One window's query means. -/
def meanQ (q k v : Vec F S1x1x96x196 .f32) : FVec F S1x1x96 .f32 :=
  k0_pay19 (k0_pay18 (k0_pay4 (F := F)) (k0_pay5 q) (k0_pay6 k) (k0_pay7 v))

/-- One window's key means. -/
def meanK (q k v : Vec F S1x1x96x196 .f32) : FVec F S1x1x96 .f32 := k0_pay20 (rowSums q k v)

/-- One window's value means. -/
def meanV (q k v : Vec F S1x1x96x196 .f32) : FVec F S1x1x96 .f32 := k0_pay21 (rowSums q k v)

/-- One window's key-value products within each head, and its key sums per head. -/
def products (k v : Vec F S1x1x96x196 .f32) : FVec F S1x1x96x99 .f32 :=
  k0_pay16 (k0_pay8 k v) (k0_pay12 (k0_pay8 k v) (iota .tc S96x96 32 [0] iota_S96x96_d0_w32) 32#32 k0_pay9 k0_pay10 k0_pay11)
    (iota .tc S96x3 32 [0] iota_S96x3_d0_w32) 32#32 k0_pay13 k0_pay14 k0_pay15

/-- The query means the call stores, window by window. -/
theorem out3_eq (x0 x1 x2 : Vec F S1x16x96x196 .f32) :
    out0_3 x0 x1 x2 = View.canon [⟨r0_47, meanQ (View.ld x0 r0_45) (View.ld x1 r0_45) (View.ld x2 r0_45)⟩,
      ⟨r0_44, meanQ (View.ld x0 r0_42) (View.ld x1 r0_42) (View.ld x2 r0_42)⟩,
      ⟨r0_41, meanQ (View.ld x0 r0_39) (View.ld x1 r0_39) (View.ld x2 r0_39)⟩,
      ⟨r0_38, meanQ (View.ld x0 r0_36) (View.ld x1 r0_36) (View.ld x2 r0_36)⟩,
      ⟨r0_35, meanQ (View.ld x0 r0_33) (View.ld x1 r0_33) (View.ld x2 r0_33)⟩,
      ⟨r0_32, meanQ (View.ld x0 r0_30) (View.ld x1 r0_30) (View.ld x2 r0_30)⟩,
      ⟨r0_29, meanQ (View.ld x0 r0_27) (View.ld x1 r0_27) (View.ld x2 r0_27)⟩,
      ⟨r0_26, meanQ (View.ld x0 r0_24) (View.ld x1 r0_24) (View.ld x2 r0_24)⟩,
      ⟨r0_23, meanQ (View.ld x0 r0_21) (View.ld x1 r0_21) (View.ld x2 r0_21)⟩,
      ⟨r0_20, meanQ (View.ld x0 r0_18) (View.ld x1 r0_18) (View.ld x2 r0_18)⟩,
      ⟨r0_17, meanQ (View.ld x0 r0_15) (View.ld x1 r0_15) (View.ld x2 r0_15)⟩,
      ⟨r0_14, meanQ (View.ld x0 r0_12) (View.ld x1 r0_12) (View.ld x2 r0_12)⟩,
      ⟨r0_11, meanQ (View.ld x0 r0_9) (View.ld x1 r0_9) (View.ld x2 r0_9)⟩,
      ⟨r0_8, meanQ (View.ld x0 r0_6) (View.ld x1 r0_6) (View.ld x2 r0_6)⟩,
      ⟨r0_5, meanQ (View.ld x0 r0_3) (View.ld x1 r0_3) (View.ld x2 r0_3)⟩,
      ⟨r0_2, meanQ (View.ld x0 r0_0) (View.ld x1 r0_0) (View.ld x2 r0_0)⟩] := rfl

/-- The key means the call stores, window by window. -/
theorem out4_eq (x0 x1 x2 : Vec F S1x16x96x196 .f32) :
    out0_4 x0 x1 x2 = View.canon [⟨r0_47, meanK (View.ld x0 r0_45) (View.ld x1 r0_45) (View.ld x2 r0_45)⟩,
      ⟨r0_44, meanK (View.ld x0 r0_42) (View.ld x1 r0_42) (View.ld x2 r0_42)⟩,
      ⟨r0_41, meanK (View.ld x0 r0_39) (View.ld x1 r0_39) (View.ld x2 r0_39)⟩,
      ⟨r0_38, meanK (View.ld x0 r0_36) (View.ld x1 r0_36) (View.ld x2 r0_36)⟩,
      ⟨r0_35, meanK (View.ld x0 r0_33) (View.ld x1 r0_33) (View.ld x2 r0_33)⟩,
      ⟨r0_32, meanK (View.ld x0 r0_30) (View.ld x1 r0_30) (View.ld x2 r0_30)⟩,
      ⟨r0_29, meanK (View.ld x0 r0_27) (View.ld x1 r0_27) (View.ld x2 r0_27)⟩,
      ⟨r0_26, meanK (View.ld x0 r0_24) (View.ld x1 r0_24) (View.ld x2 r0_24)⟩,
      ⟨r0_23, meanK (View.ld x0 r0_21) (View.ld x1 r0_21) (View.ld x2 r0_21)⟩,
      ⟨r0_20, meanK (View.ld x0 r0_18) (View.ld x1 r0_18) (View.ld x2 r0_18)⟩,
      ⟨r0_17, meanK (View.ld x0 r0_15) (View.ld x1 r0_15) (View.ld x2 r0_15)⟩,
      ⟨r0_14, meanK (View.ld x0 r0_12) (View.ld x1 r0_12) (View.ld x2 r0_12)⟩,
      ⟨r0_11, meanK (View.ld x0 r0_9) (View.ld x1 r0_9) (View.ld x2 r0_9)⟩,
      ⟨r0_8, meanK (View.ld x0 r0_6) (View.ld x1 r0_6) (View.ld x2 r0_6)⟩,
      ⟨r0_5, meanK (View.ld x0 r0_3) (View.ld x1 r0_3) (View.ld x2 r0_3)⟩,
      ⟨r0_2, meanK (View.ld x0 r0_0) (View.ld x1 r0_0) (View.ld x2 r0_0)⟩] := rfl

/-- The value means the call stores, window by window. -/
theorem out5_eq (x0 x1 x2 : Vec F S1x16x96x196 .f32) :
    out0_5 x0 x1 x2 = View.canon [⟨r0_47, meanV (View.ld x0 r0_45) (View.ld x1 r0_45) (View.ld x2 r0_45)⟩,
      ⟨r0_44, meanV (View.ld x0 r0_42) (View.ld x1 r0_42) (View.ld x2 r0_42)⟩,
      ⟨r0_41, meanV (View.ld x0 r0_39) (View.ld x1 r0_39) (View.ld x2 r0_39)⟩,
      ⟨r0_38, meanV (View.ld x0 r0_36) (View.ld x1 r0_36) (View.ld x2 r0_36)⟩,
      ⟨r0_35, meanV (View.ld x0 r0_33) (View.ld x1 r0_33) (View.ld x2 r0_33)⟩,
      ⟨r0_32, meanV (View.ld x0 r0_30) (View.ld x1 r0_30) (View.ld x2 r0_30)⟩,
      ⟨r0_29, meanV (View.ld x0 r0_27) (View.ld x1 r0_27) (View.ld x2 r0_27)⟩,
      ⟨r0_26, meanV (View.ld x0 r0_24) (View.ld x1 r0_24) (View.ld x2 r0_24)⟩,
      ⟨r0_23, meanV (View.ld x0 r0_21) (View.ld x1 r0_21) (View.ld x2 r0_21)⟩,
      ⟨r0_20, meanV (View.ld x0 r0_18) (View.ld x1 r0_18) (View.ld x2 r0_18)⟩,
      ⟨r0_17, meanV (View.ld x0 r0_15) (View.ld x1 r0_15) (View.ld x2 r0_15)⟩,
      ⟨r0_14, meanV (View.ld x0 r0_12) (View.ld x1 r0_12) (View.ld x2 r0_12)⟩,
      ⟨r0_11, meanV (View.ld x0 r0_9) (View.ld x1 r0_9) (View.ld x2 r0_9)⟩,
      ⟨r0_8, meanV (View.ld x0 r0_6) (View.ld x1 r0_6) (View.ld x2 r0_6)⟩,
      ⟨r0_5, meanV (View.ld x0 r0_3) (View.ld x1 r0_3) (View.ld x2 r0_3)⟩,
      ⟨r0_2, meanV (View.ld x0 r0_0) (View.ld x1 r0_0) (View.ld x2 r0_0)⟩] := rfl

/-- The products the call stores, window by window. -/
theorem out6_eq (x0 x1 x2 : Vec F S1x16x96x196 .f32) :
    out0_6 x0 x1 x2 = View.canon [⟨r0_46, products (View.ld x1 r0_45) (View.ld x2 r0_45)⟩,
      ⟨r0_43, products (View.ld x1 r0_42) (View.ld x2 r0_42)⟩,
      ⟨r0_40, products (View.ld x1 r0_39) (View.ld x2 r0_39)⟩,
      ⟨r0_37, products (View.ld x1 r0_36) (View.ld x2 r0_36)⟩,
      ⟨r0_34, products (View.ld x1 r0_33) (View.ld x2 r0_33)⟩,
      ⟨r0_31, products (View.ld x1 r0_30) (View.ld x2 r0_30)⟩,
      ⟨r0_28, products (View.ld x1 r0_27) (View.ld x2 r0_27)⟩,
      ⟨r0_25, products (View.ld x1 r0_24) (View.ld x2 r0_24)⟩,
      ⟨r0_22, products (View.ld x1 r0_21) (View.ld x2 r0_21)⟩,
      ⟨r0_19, products (View.ld x1 r0_18) (View.ld x2 r0_18)⟩,
      ⟨r0_16, products (View.ld x1 r0_15) (View.ld x2 r0_15)⟩,
      ⟨r0_13, products (View.ld x1 r0_12) (View.ld x2 r0_12)⟩,
      ⟨r0_10, products (View.ld x1 r0_9) (View.ld x2 r0_9)⟩,
      ⟨r0_7, products (View.ld x1 r0_6) (View.ld x2 r0_6)⟩,
      ⟨r0_4, products (View.ld x1 r0_3) (View.ld x2 r0_3)⟩,
      ⟨r0_1, products (View.ld x1 r0_0) (View.ld x2 r0_0)⟩] := rfl

end Cert.Proof.Stats

end
-- ==== Proof.Spec.lean ====
module

public import proofs.«01_k».proof.KernelIdeal
public import Idealize.ShloMosaic.Lib.Pointwise

@[expose] public section

set_option maxRecDepth 16384

noncomputable section

namespace Cert.Proof

open Idealize.ShloMosaic

/-- The feature map `elu x + 1`, as the kernel spells it: `x + 1` where `x` is positive and `exp x` elsewhere. -/
def elu1 (x : EReal) : EReal := if 0 < x then x + 1 else Ideal.exp x

/-- One where two channels (or a channel and a head) belong to the same head, zero elsewhere. -/
def same (a b : ℕ) : EReal := if a = b then 1 else 0

/-- The products of feature rows with value rows within each head, in columns `0…95`, and each head's feature sums, in
    columns `96, 97, 98`. -/
def blockDiag {ι : Type} [Fintype ι] (kf v : Fin 96 → ι → EReal) (c : Fin 96) (j : Fin 99) : EReal :=
  if h : j.val < 96 then (∑ t, kf c t * v ⟨j.val, h⟩ t) * same (c.val / 32) (j.val / 32)
  else (∑ t, kf c t) * same (c.val / 32) (j.val - 96)

/-- The small number added to every denominator. -/
def eps : EReal := Ideal.ofBits FTy.f32 0x358637BD#32

/-- A query's feature row against column `j` of the products. -/
def weigh (g : Fin 96 → Fin 99 → EReal) (qf : Fin 96 → EReal) (j : Fin 99) : EReal := ∑ d, g d j * qf d

/-- A query's result at channel `c`: its feature row against the products, over the same against the feature sums of the
    channel's head. -/
def message (g : Fin 96 → Fin 99 → EReal) (qf : Fin 96 → EReal) (c : Fin 96) : EReal :=
  Ideal.div (weigh g qf ⟨c.val, by omega⟩)
    ((∑ h : Fin 3, same (c.val / 32) h.val * weigh g qf ⟨96 + h.val, by omega⟩) + eps)

/-- The kernel's two branches with the positive part cut out of the exponent are `elu1`. -/
theorem elu1_branches (x : EReal) :
    (if 0 < x then x + 1 else Ideal.exp (if 0 < x then 0 else x)) = elu1 x := by
  unfold elu1
  by_cases h : 0 < x <;> simp [h]

/-- The kernel's integer division of a channel number by 32 (rounded down), as it is printed, is the head number. -/
theorem headWord (n : ℕ) (hn : n < 96) :
    Scalar.select
      (IntOp.andi
        (IntOp.cmpi CmpIPredicate.ne
          (IntOp.subi (BitVec.setWidth 32 (IntOp.cmpi CmpIPredicate.sgt (BitVec.ofNat 32 n) 0#32))
            (BitVec.setWidth 32 (IntOp.cmpi CmpIPredicate.slt (BitVec.ofNat 32 n) 0#32)))
          (Scalar.subi (Scalar.extui (Scalar.cmpi CmpIPredicate.sgt 32#32 0#32))
            (Scalar.extui (Scalar.cmpi CmpIPredicate.slt 32#32 0#32))))
        (IntOp.cmpi CmpIPredicate.ne (IntOp.remsi ArithUnit.vector (BitVec.ofNat 32 n) 32#32) 0#32))
      (IntOp.subi (IntOp.divsi ArithUnit.vector (BitVec.ofNat 32 n) 32#32) 1#32)
      (IntOp.divsi ArithUnit.vector (BitVec.ofNat 32 n) 32#32) = BitVec.ofNat 32 (n / 32) :=
  (by decide +kernel : ∀ n : Fin 96, Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 32#32 0#32))
            (Scalar.extui (Scalar.cmpi CmpIPredicate.slt 32#32 0#32))))
        (IntOp.cmpi CmpIPredicate.ne (IntOp.remsi ArithUnit.vector (BitVec.ofNat 32 n.val) 32#32) 0#32))
      (IntOp.subi (IntOp.divsi ArithUnit.vector (BitVec.ofNat 32 n.val) 32#32) 1#32)
      (IntOp.divsi ArithUnit.vector (BitVec.ofNat 32 n.val) 32#32) = BitVec.ofNat 32 (n.val / 32)) ⟨n, hn⟩

/-- Two small numbers compared as 32-bit words, the bit read as a float: one where they agree, zero elsewhere. -/
theorem sameWord (a b : ℕ) (ha : a < 4096) (hb : b < 4096) :
    FloatOps.sitofp (F := Ideal) FTy.f32
      (BitVec.setWidth 32 (IntOp.cmpi CmpIPredicate.eq (BitVec.ofNat 32 a) (BitVec.ofNat 32 b))) = same a b := by
  have hab : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  unfold same
  by_cases h : a = b
  · subst h
    rw [if_pos rfl]
    show ((((BitVec.setWidth 32 (IntOp.cmpi CmpIPredicate.eq (BitVec.ofNat 32 a) (BitVec.ofNat 32 a))).toInt : ℝ)) : EReal) = 1
    simp [IntOp.cmpi]
  · rw [if_neg h]
    have h' : ¬ BitVec.ofNat 32 a = BitVec.ofNat 32 b := fun e => h (hab.1 e)
    show ((((BitVec.setWidth 32 (IntOp.cmpi CmpIPredicate.eq (BitVec.ofNat 32 a) (BitVec.ofNat 32 b))).toInt : ℝ)) : EReal) = 0
    have : IntOp.cmpi CmpIPredicate.eq (BitVec.ofNat 32 a) (BitVec.ofNat 32 b) = 0#1 := by
      show BitVec.ofBool (BitVec.ofNat 32 a == BitVec.ofNat 32 b) = 0#1
      rw [beq_eq_false_iff_ne.2 h']; rfl
    rw [this]; simp

end Cert.Proof

end
-- ==== Proof.StatsValue.lean ====
module

public import proofs.«01_k».proof.Proof.StatsPieces
public import proofs.«01_k».proof.Proof.Spec

@[expose] public section

set_option maxRecDepth 16384

noncomputable section

namespace Cert.Proof.Stats

open Idealize.ShloMosaic Cert.KernelIdeal Cert.KernelIdeal.Gen

/-- The named constant of the means is 1/196. -/
theorem inv_t : (Named.named κ "inv_t" 1000812293#32 : Ideal .f32) = ((1 / 196 : ℝ) : EReal) :=
  IdealRules.named_const.ideal_named_scalar _ _ _ _ rfl

/-- A real number less itself is zero. -/
theorem sub_self_of_real {x : EReal} (h : ∃ r : ℝ, x = r) : x - x = 0 := by
  obtain ⟨r, rfl⟩ := h
  rw [← EReal.coe_sub, sub_self, EReal.coe_zero]

/-- The query means of one window of real entries: each channel's sum times 1/196. -/
theorem meanQ_apply (q k v : Vec Ideal S1x1x96x196 .f32) (hq : ∀ i, ∃ r : ℝ, q i = r) (c : Fin 96) :
    meanQ q k v (ix3 (0 : Fin 1) (0 : Fin 1) c) = (∑ t : Fin 196, q (ix4 (0 : Fin 1) (0 : Fin 1) c t)) * ((1 / 196 : ℝ) : EReal) := by
  unfold meanQ
  unfold_payloads
  pointwise [dot_S1x196_S672x196_S1x672_1_1_0_0_n_n]
  have hc := c.isLt
  have e1 : ∀ h, (⟨192 + c.val - 192, h⟩ : Fin 96) = c := fun h => Fin.ext (by simp)
  have e2 : ∀ h, (⟨384 + c.val - 192 - 192, h⟩ : Fin 96) = c := fun h => Fin.ext (by show 384 + c.val - 192 - 192 = c.val; omega)
  simp (disch := omega) only [dif_pos, dif_neg, e1, e2, Fin.eta, inv_t, sub_self_of_real (hq _), sub_zero, Finset.sum_const_zero, add_zero]

/-- The key means of one window of real entries. -/
theorem meanK_apply (q k v : Vec Ideal S1x1x96x196 .f32) (hk : ∀ i, ∃ r : ℝ, k i = r) (c : Fin 96) :
    meanK q k v (ix3 (0 : Fin 1) (0 : Fin 1) c) = (∑ t : Fin 196, k (ix4 (0 : Fin 1) (0 : Fin 1) c t)) * ((1 / 196 : ℝ) : EReal) := by
  unfold meanK rowSums
  unfold_payloads
  pointwise [dot_S1x196_S672x196_S1x672_1_1_0_0_n_n]
  have hc := c.isLt
  have e0 : ∀ h, (⟨96 + c.val - 96, h⟩ : Fin 96) = c := fun h => Fin.ext (by simp)
  have e1 : ∀ h, (⟨288 + c.val - 192 - 96, h⟩ : Fin 96) = c := fun h => Fin.ext (by show 288 + c.val - 192 - 96 = c.val; omega)
  have e2 : ∀ h, (⟨480 + c.val - 192 - 192 - 96, h⟩ : Fin 96) = c := fun h => Fin.ext (by show 480 + c.val - 192 - 192 - 96 = c.val; omega)
  simp (disch := omega) only [dif_pos, dif_neg, e0, e1, e2, Fin.eta, inv_t, sub_self_of_real (hk _), sub_zero, Finset.sum_const_zero, add_zero]

/-- The value means of one window. -/
theorem meanV_apply (q k v : Vec Ideal S1x1x96x196 .f32) (c : Fin 96) :
    meanV q k v (ix3 (0 : Fin 1) (0 : Fin 1) c) = (∑ t : Fin 196, v (ix4 (0 : Fin 1) (0 : Fin 1) c t)) * ((1 / 196 : ℝ) : EReal) := by
  unfold meanV rowSums
  unfold_payloads
  pointwise [dot_S1x196_S672x196_S1x672_1_1_0_0_n_n]
  have hc := c.isLt
  have e2 : ∀ h, (⟨576 + c.val - 192 - 192 - 192, h⟩ : Fin 96) = c := fun h => Fin.ext (by show 576 + c.val - 192 - 192 - 192 = c.val; omega)
  simp (disch := omega) only [dif_pos, dif_neg, e2, Fin.eta, inv_t]

/-- The products of one window's feature rows with its value rows within each head, and its feature sums. -/
theorem products_apply (k v : Vec Ideal S1x1x96x196 .f32) (c : Fin 96) (j : Fin 99) :
    products k v (ix4 (0 : Fin 1) (0 : Fin 1) c j)
      = blockDiag (fun c t => elu1 (k (ix4 (0 : Fin 1) (0 : Fin 1) c t))) (fun c t => v (ix4 (0 : Fin 1) (0 : Fin 1) c t)) c j := by
  unfold products
  unfold_payloads
  pointwise [dot_S96x196_S97x196_S96x97_1_1_0_0_n_n]
  have hc := c.isLt
  have hj := j.isLt
  unfold blockDiag
  simp only [elu1_branches]
  by_cases h : j.val < 96
  · simp only [dif_pos h]
    rw [headWord _ hc, headWord _ h, sameWord _ _ (by omega) (by omega)]
  · simp only [dif_neg h]
    rw [headWord _ hc, sameWord _ _ (by omega) (by omega)]

end Cert.Proof.Stats

end
-- ==== Proof.StatsBlock.lean ====
module

public import proofs.«01_k».proof.Proof.StatsValue

@[expose] public section

set_option maxRecDepth 16384

noncomputable section

namespace Cert.Proof.Stats

open Idealize.ShloMosaic Idealize.ShloMosaic.TcCoe Cert.KernelIdeal Cert.KernelIdeal.Gen
open Idealize.ShloMosaic.Pipeline (Dat)

/-! What one step of the first call leaves in its staging buffers, at an index. -/

/-- The window means of a block of sixteen windows. -/
def blockMean (x : Vec Ideal S1x16x96x196 .f32) : S1x16x96.Idx → EReal := fun i =>
  (∑ t : Fin 196, x (ix4 (i 0) (i 1) (i 2) t)) * ((1 / 196 : ℝ) : EReal)

/-- The products of a block of sixteen windows. -/
def blockProducts (k v : Vec Ideal S1x16x96x196 .f32) : S1x16x96x99.Idx → EReal := fun i =>
  blockDiag (fun c t => elu1 (k (ix4 (i 0) (i 1) c t))) (fun c t => v (ix4 (i 0) (i 1) c t)) (i 2) (i 3)

/-- Window `w` of a block, read through its rectangle. -/
theorem window_idx (w : ℕ) (hi : ∀ a, ![0, w, 0, 0] a + S1x1x96x196.size a ≤ S1x16x96x196.size a) (hw : w < 16) (c : Fin 96) (t : Fin 196) :
    (Rect.unit (s := S1x16x96x196) ![0, w, 0, 0] S1x1x96x196.size hi).idx (ix4 (0 : Fin 1) (0 : Fin 1) c t)
      = ix4 (0 : Fin 1) (⟨w, hw⟩ : Fin 16) c t := by
  funext a
  refine Fin.ext ?_
  match a with
  | ⟨0, _⟩ => rfl
  | ⟨1, _⟩ => show w + 1 * 0 = w; omega
  | ⟨2, _⟩ => show 0 + 1 * c.val = c.val; omega
  | ⟨3, _⟩ => show 0 + 1 * t.val = t.val; omega

/-- Row `w` of a block of means, through its rectangle. -/
theorem row_emb (w : ℕ) (hi : ∀ a, ![0, w, 0] a + S1x1x96.size a ≤ S1x16x96.size a) (hw : w < 16) (c : Fin 96) :
    (Rect.unit (s := S1x16x96) ![0, w, 0] S1x1x96.size hi).emb (ix3 (0 : Fin 1) (0 : Fin 1) c)
      = ix3 (0 : Fin 1) (⟨w, hw⟩ : Fin 16) c := by
  funext a
  refine Fin.ext ?_
  match a with
  | ⟨0, _⟩ => rfl
  | ⟨1, _⟩ => show w + 1 * 0 = w; omega
  | ⟨2, _⟩ => show 0 + 1 * c.val = c.val; omega

/-- Tile `w` of a block of products, through its rectangle. -/
theorem tile_emb (w : ℕ) (hi : ∀ a, ![0, w, 0, 0] a + S1x1x96x99.size a ≤ S1x16x96x99.size a) (hw : w < 16) (c : Fin 96) (j : Fin 99) :
    (Rect.unit (s := S1x16x96x99) ![0, w, 0, 0] S1x1x96x99.size hi).emb (ix4 (0 : Fin 1) (0 : Fin 1) c j)
      = ix4 (0 : Fin 1) (⟨w, hw⟩ : Fin 16) c j := by
  funext a
  refine Fin.ext ?_
  match a with
  | ⟨0, _⟩ => rfl
  | ⟨1, _⟩ => show w + 1 * 0 = w; omega
  | ⟨2, _⟩ => show 0 + 1 * c.val = c.val; omega
  | ⟨3, _⟩ => show 0 + 1 * j.val = j.val; omega

variable (x0 x1 x2 : Vec Ideal S1x16x96x196 .f32)

/-- The query means of window `w` are that row of the block's means. -/
theorem meanQ_piece (h0 : ∀ i, ∃ r : ℝ, x0 i = r) (w : ℕ)
    (hi : ∀ a, ![0, w, 0, 0] a + S1x1x96x196.size a ≤ S1x16x96x196.size a)
    (ho : ∀ a, ![0, w, 0] a + S1x1x96.size a ≤ S1x16x96.size a) (hw : w < 16)
    (y : (Rect.unit (s := S1x16x96) ![0, w, 0] S1x1x96.size ho).shape.Idx) :
    meanQ (View.ld x0 (Rect.unit (s := S1x16x96x196) ![0, w, 0, 0] S1x1x96x196.size hi))
      (View.ld x1 (Rect.unit (s := S1x16x96x196) ![0, w, 0, 0] S1x1x96x196.size hi))
      (View.ld x2 (Rect.unit (s := S1x16x96x196) ![0, w, 0, 0] S1x1x96x196.size hi)) y
      = blockMean x0 ((Rect.unit (s := S1x16x96) ![0, w, 0] S1x1x96.size ho).emb y) := by
  obtain ⟨a, b, c, rfl⟩ : ∃ (a b : Fin 1) (c : Fin 96), y = ix3 a b c := ⟨_, _, _, eq_ix3 y⟩
  obtain rfl : a = 0 := Subsingleton.elim _ _
  obtain rfl : b = 0 := Subsingleton.elim _ _
  rw [row_emb w ho hw]
  refine (meanQ_apply _ _ _ (fun i => h0 _) c).trans ?_
  simp only [View.ld, window_idx w hi hw]
  rfl

/-- The key means of window `w` are that row of the block's means. -/
theorem meanK_piece (h1 : ∀ i, ∃ r : ℝ, x1 i = r) (w : ℕ)
    (hi : ∀ a, ![0, w, 0, 0] a + S1x1x96x196.size a ≤ S1x16x96x196.size a)
    (ho : ∀ a, ![0, w, 0] a + S1x1x96.size a ≤ S1x16x96.size a) (hw : w < 16)
    (y : (Rect.unit (s := S1x16x96) ![0, w, 0] S1x1x96.size ho).shape.Idx) :
    meanK (View.ld x0 (Rect.unit (s := S1x16x96x196) ![0, w, 0, 0] S1x1x96x196.size hi))
      (View.ld x1 (Rect.unit (s := S1x16x96x196) ![0, w, 0, 0] S1x1x96x196.size hi))
      (View.ld x2 (Rect.unit (s := S1x16x96x196) ![0, w, 0, 0] S1x1x96x196.size hi)) y
      = blockMean x1 ((Rect.unit (s := S1x16x96) ![0, w, 0] S1x1x96.size ho).emb y) := by
  obtain ⟨a, b, c, rfl⟩ : ∃ (a b : Fin 1) (c : Fin 96), y = ix3 a b c := ⟨_, _, _, eq_ix3 y⟩
  obtain rfl : a = 0 := Subsingleton.elim _ _
  obtain rfl : b = 0 := Subsingleton.elim _ _
  rw [row_emb w ho hw]
  refine (meanK_apply _ _ _ (fun i => h1 _) c).trans ?_
  simp only [View.ld, window_idx w hi hw]
  rfl

/-- The value means of window `w` are that row of the block's means. -/
theorem meanV_piece (w : ℕ)
    (hi : ∀ a, ![0, w, 0, 0] a + S1x1x96x196.size a ≤ S1x16x96x196.size a)
    (ho : ∀ a, ![0, w, 0] a + S1x1x96.size a ≤ S1x16x96.size a) (hw : w < 16)
    (y : (Rect.unit (s := S1x16x96) ![0, w, 0] S1x1x96.size ho).shape.Idx) :
    meanV (View.ld x0 (Rect.unit (s := S1x16x96x196) ![0, w, 0, 0] S1x1x96x196.size hi))
      (View.ld x1 (Rect.unit (s := S1x16x96x196) ![0, w, 0, 0] S1x1x96x196.size hi))
      (View.ld x2 (Rect.unit (s := S1x16x96x196) ![0, w, 0, 0] S1x1x96x196.size hi)) y
      = blockMean x2 ((Rect.unit (s := S1x16x96) ![0, w, 0] S1x1x96.size ho).emb y) := by
  obtain ⟨a, b, c, rfl⟩ : ∃ (a b : Fin 1) (c : Fin 96), y = ix3 a b c := ⟨_, _, _, eq_ix3 y⟩
  obtain rfl : a = 0 := Subsingleton.elim _ _
  obtain rfl : b = 0 := Subsingleton.elim _ _
  rw [row_emb w ho hw, meanV_apply]
  simp only [View.ld, window_idx w hi hw]
  rfl

/-- The products of window `w` are that tile of the block's products. -/
theorem products_piece (w : ℕ)
    (hi : ∀ a, ![0, w, 0, 0] a + S1x1x96x196.size a ≤ S1x16x96x196.size a)
    (ho : ∀ a, ![0, w, 0, 0] a + S1x1x96x99.size a ≤ S1x16x96x99.size a) (hw : w < 16)
    (y : (Rect.unit (s := S1x16x96x99) ![0, w, 0, 0] S1x1x96x99.size ho).shape.Idx) :
    products (View.ld x1 (Rect.unit (s := S1x16x96x196) ![0, w, 0, 0] S1x1x96x196.size hi))
      (View.ld x2 (Rect.unit (s := S1x16x96x196) ![0, w, 0, 0] S1x1x96x196.size hi)) y
      = blockProducts x1 x2 ((Rect.unit (s := S1x16x96x99) ![0, w, 0, 0] S1x1x96x99.size ho).emb y) := by
  obtain ⟨a, b, c, j, rfl⟩ : ∃ (a b : Fin 1) (c : Fin 96) (j : Fin 99), y = ix4 a b c j := ⟨_, _, _, _, eq_ix4 y⟩
  obtain rfl : a = 0 := Subsingleton.elim _ _
  obtain rfl : b = 0 := Subsingleton.elim _ _
  rw [tile_emb w ho hw, products_apply]
  simp only [View.ld, window_idx w hi hw]
  rfl

/-- The staging buffer of the query means after a step. -/
theorem out3_block (h0 : ∀ i, ∃ r : ℝ, x0 i = r) : out0_3 x0 x1 x2 = blockMean x0 := by
  rw [out3_eq]
  funext y
  refine View.canon_apply_of_pieces (Val := Elt Ideal) (e := .f32) (blockMean x0) _ ?_ y (cover0_3 _ _ _ _ _ _ _ _ _ _ _ _ _ _ _ _ y)
  simp only [List.forall_mem_cons, List.not_mem_nil, false_imp_iff, implies_true, and_true]
  exact ⟨meanQ_piece x0 x1 x2 h0 15 _ _ (by decide), meanQ_piece x0 x1 x2 h0 14 _ _ (by decide), meanQ_piece x0 x1 x2 h0 13 _ _ (by decide), meanQ_piece x0 x1 x2 h0 12 _ _ (by decide), meanQ_piece x0 x1 x2 h0 11 _ _ (by decide), meanQ_piece x0 x1 x2 h0 10 _ _ (by decide), meanQ_piece x0 x1 x2 h0 9 _ _ (by decide), meanQ_piece x0 x1 x2 h0 8 _ _ (by decide), meanQ_piece x0 x1 x2 h0 7 _ _ (by decide), meanQ_piece x0 x1 x2 h0 6 _ _ (by decide), meanQ_piece x0 x1 x2 h0 5 _ _ (by decide), meanQ_piece x0 x1 x2 h0 4 _ _ (by decide), meanQ_piece x0 x1 x2 h0 3 _ _ (by decide), meanQ_piece x0 x1 x2 h0 2 _ _ (by decide), meanQ_piece x0 x1 x2 h0 1 _ _ (by decide), meanQ_piece x0 x1 x2 h0 0 _ _ (by decide)⟩

/-- The staging buffer of the key means after a step. -/
theorem out4_block (h1 : ∀ i, ∃ r : ℝ, x1 i = r) : out0_4 x0 x1 x2 = blockMean x1 := by
  rw [out4_eq]
  funext y
  refine View.canon_apply_of_pieces (Val := Elt Ideal) (e := .f32) (blockMean x1) _ ?_ y (cover0_4 _ _ _ _ _ _ _ _ _ _ _ _ _ _ _ _ y)
  simp only [List.forall_mem_cons, List.not_mem_nil, false_imp_iff, implies_true, and_true]
  exact ⟨meanK_piece x0 x1 x2 h1 15 _ _ (by decide), meanK_piece x0 x1 x2 h1 14 _ _ (by decide), meanK_piece x0 x1 x2 h1 13 _ _ (by decide), meanK_piece x0 x1 x2 h1 12 _ _ (by decide), meanK_piece x0 x1 x2 h1 11 _ _ (by decide), meanK_piece x0 x1 x2 h1 10 _ _ (by decide), meanK_piece x0 x1 x2 h1 9 _ _ (by decide), meanK_piece x0 x1 x2 h1 8 _ _ (by decide), meanK_piece x0 x1 x2 h1 7 _ _ (by decide), meanK_piece x0 x1 x2 h1 6 _ _ (by decide), meanK_piece x0 x1 x2 h1 5 _ _ (by decide), meanK_piece x0 x1 x2 h1 4 _ _ (by decide), meanK_piece x0 x1 x2 h1 3 _ _ (by decide), meanK_piece x0 x1 x2 h1 2 _ _ (by decide), meanK_piece x0 x1 x2 h1 1 _ _ (by decide), meanK_piece x0 x1 x2 h1 0 _ _ (by decide)⟩

/-- The staging buffer of the value means after a step. -/
theorem out5_block : out0_5 x0 x1 x2 = blockMean x2 := by
  rw [out5_eq]
  funext y
  refine View.canon_apply_of_pieces (Val := Elt Ideal) (e := .f32) (blockMean x2) _ ?_ y (cover0_5 _ _ _ _ _ _ _ _ _ _ _ _ _ _ _ _ y)
  simp only [List.forall_mem_cons, List.not_mem_nil, false_imp_iff, implies_true, and_true]
  exact ⟨meanV_piece x0 x1 x2 15 _ _ (by decide), meanV_piece x0 x1 x2 14 _ _ (by decide), meanV_piece x0 x1 x2 13 _ _ (by decide), meanV_piece x0 x1 x2 12 _ _ (by decide), meanV_piece x0 x1 x2 11 _ _ (by decide), meanV_piece x0 x1 x2 10 _ _ (by decide), meanV_piece x0 x1 x2 9 _ _ (by decide), meanV_piece x0 x1 x2 8 _ _ (by decide), meanV_piece x0 x1 x2 7 _ _ (by decide), meanV_piece x0 x1 x2 6 _ _ (by decide), meanV_piece x0 x1 x2 5 _ _ (by decide), meanV_piece x0 x1 x2 4 _ _ (by decide), meanV_piece x0 x1 x2 3 _ _ (by decide), meanV_piece x0 x1 x2 2 _ _ (by decide), meanV_piece x0 x1 x2 1 _ _ (by decide), meanV_piece x0 x1 x2 0 _ _ (by decide)⟩

/-- The staging buffer of the products after a step. -/
theorem out6_block : out0_6 x0 x1 x2 = blockProducts x1 x2 := by
  rw [out6_eq]
  funext y
  refine View.canon_apply_of_pieces (Val := Elt Ideal) (e := .f32) (blockProducts x1 x2) _ ?_ y (cover0_6 _ _ _ _ _ _ _ _ _ _ _ _ _ _ _ _ y)
  simp only [List.forall_mem_cons, List.not_mem_nil, false_imp_iff, implies_true, and_true]
  exact ⟨products_piece x1 x2 15 _ _ (by decide), products_piece x1 x2 14 _ _ (by decide), products_piece x1 x2 13 _ _ (by decide), products_piece x1 x2 12 _ _ (by decide), products_piece x1 x2 11 _ _ (by decide), products_piece x1 x2 10 _ _ (by decide), products_piece x1 x2 9 _ _ (by decide), products_piece x1 x2 8 _ _ (by decide), products_piece x1 x2 7 _ _ (by decide), products_piece x1 x2 6 _ _ (by decide), products_piece x1 x2 5 _ _ (by decide), products_piece x1 x2 4 _ _ (by decide), products_piece x1 x2 3 _ _ (by decide), products_piece x1 x2 2 _ _ (by decide), products_piece x1 x2 1 _ _ (by decide), products_piece x1 x2 0 _ _ (by decide)⟩

end Cert.Proof.Stats

end
-- ==== Proof.StatsArray.lean ====
module

public import proofs.«01_k».proof.Proof.StatsBlock
public import Idealize.ShloMosaic.Lib.Pipeline.ValueKit

@[expose] public section

set_option maxRecDepth 16384

noncomputable section

namespace Cert.Proof.Stats

open Idealize.ShloMosaic Idealize.ShloMosaic.TcCoe Cert.KernelIdeal Cert.KernelIdeal.Gen
open Idealize.ShloMosaic.Pipeline (Dat)

/-! What the first call leaves in its four result arrays. -/

/-- The window means of a whole array of windows. -/
def arrayMean (x : S2x256x96x196.Idx → EReal) : S2x256x96.Idx → EReal := fun i =>
  (∑ t : Fin 196, x (ix4 (i 0) (i 1) (i 2) t)) * ((1 / 196 : ℝ) : EReal)

/-- The products of a whole array of windows. -/
def arrayProducts (k v : S2x256x96x196.Idx → EReal) : S2x256x96x99.Idx → EReal := fun i =>
  blockDiag (fun c t => elu1 (k (ix4 (i 0) (i 1) c t))) (fun c t => v (ix4 (i 0) (i 1) c t)) (i 2) (i 3)

/-- The batch and windows of a step's block of input 0. -/
theorem index_in0 : ∀ t : Fin cfg0.N, win0_0.index t = ![t.val / 16, t.val % 16, 0, 0] :=
  (by decide +kernel : ∀ t : Fin grid0.N, win0_0.index t = ![t.val / 16, t.val % 16, 0, 0])

/-- The batch and windows of a step's block of input 1. -/
theorem index_in1 : ∀ t : Fin cfg0.N, win0_1.index t = ![t.val / 16, t.val % 16, 0, 0] :=
  (by decide +kernel : ∀ t : Fin grid0.N, win0_1.index t = ![t.val / 16, t.val % 16, 0, 0])

/-- The batch and windows of a step's block of input 2. -/
theorem index_in2 : ∀ t : Fin cfg0.N, win0_2.index t = ![t.val / 16, t.val % 16, 0, 0] :=
  (by decide +kernel : ∀ t : Fin grid0.N, win0_2.index t = ![t.val / 16, t.val % 16, 0, 0])

/-- The batch and windows of a step's block of result 0. -/
theorem index_out3 : ∀ t : Fin cfg0.N, win0_3.index t = ![t.val / 16, t.val % 16, 0] :=
  (by decide +kernel : ∀ t : Fin grid0.N, win0_3.index t = ![t.val / 16, t.val % 16, 0])

/-- The batch and windows of a step's block of result 1. -/
theorem index_out4 : ∀ t : Fin cfg0.N, win0_4.index t = ![t.val / 16, t.val % 16, 0] :=
  (by decide +kernel : ∀ t : Fin grid0.N, win0_4.index t = ![t.val / 16, t.val % 16, 0])

/-- The batch and windows of a step's block of result 2. -/
theorem index_out5 : ∀ t : Fin cfg0.N, win0_5.index t = ![t.val / 16, t.val % 16, 0] :=
  (by decide +kernel : ∀ t : Fin grid0.N, win0_5.index t = ![t.val / 16, t.val % 16, 0])

/-- The batch and windows of a step's block of products. -/
theorem index_out6 : ∀ t : Fin cfg0.N, win0_6.index t = ![t.val / 16, t.val % 16, 0, 0] :=
  (by decide +kernel : ∀ t : Fin grid0.N, win0_6.index t = ![t.val / 16, t.val % 16, 0, 0])

variable (V : (c : Dev nD) → (b : Ref sig .tc) → Buf (Elt Ideal) ((c : Thread nD τ).loc b)) (c : Dev nD)

variable (x : S2x256x96x196.Idx → EReal)

/-- Result 0: the means of input 0. -/
theorem final3 (hx : V c (Pipeline.arrRef spec0 0) = x) (h : ∀ i, ∃ r : ℝ, x i = r) : (dat0 V c).arrAt 3 cfg0.N = arrayMean x := by
  refine (dat0 V c).arrAt_eq_of_covers 3 _ (by decide +kernel) fun t hf y => ?_
  blk_simp
  rw [after0_3, out3_block _ _ _ (fun i => by subst hx; exact h _)]
  subst hx
  refine congrArg (· * ((1 / 196 : ℝ) : EReal)) (Finset.sum_congr rfl fun s _ => ?_)
  blk_simp [iblk0]
  refine congrArg (V c (Pipeline.arrRef spec0 0)) ?_
  blk_ext [index_in0, index_out3]

/-- Result 1: the means of input 1. -/
theorem final4 (hx : V c (Pipeline.arrRef spec0 1) = x) (h : ∀ i, ∃ r : ℝ, x i = r) : (dat0 V c).arrAt 4 cfg0.N = arrayMean x := by
  refine (dat0 V c).arrAt_eq_of_covers 4 _ (by decide +kernel) fun t hf y => ?_
  blk_simp
  rw [after0_4, out4_block _ _ _ (fun i => by subst hx; exact h _)]
  subst hx
  refine congrArg (· * ((1 / 196 : ℝ) : EReal)) (Finset.sum_congr rfl fun s _ => ?_)
  blk_simp [iblk0]
  refine congrArg (V c (Pipeline.arrRef spec0 1)) ?_
  blk_ext [index_in1, index_out4]

/-- Result 2: the means of input 2. -/
theorem final5 (hx : V c (Pipeline.arrRef spec0 2) = x) : (dat0 V c).arrAt 5 cfg0.N = arrayMean x := by
  refine (dat0 V c).arrAt_eq_of_covers 5 _ (by decide +kernel) fun t hf y => ?_
  blk_simp
  rw [after0_5, out5_block _ _ _]
  subst hx
  refine congrArg (· * ((1 / 196 : ℝ) : EReal)) (Finset.sum_congr rfl fun s _ => ?_)
  blk_simp [iblk0]
  refine congrArg (V c (Pipeline.arrRef spec0 2)) ?_
  blk_ext [index_in2, index_out5]

/-- Result 3: the products of inputs 1 and 2. -/
theorem final6 (k v : S2x256x96x196.Idx → EReal) (hk : V c (Pipeline.arrRef spec0 1) = k) (hv : V c (Pipeline.arrRef spec0 2) = v) :
    (dat0 V c).arrAt 6 cfg0.N = arrayProducts k v := by
  refine (dat0 V c).arrAt_eq_of_covers 6 _ (by decide +kernel) fun t hf y => ?_
  blk_simp
  rw [after0_6, out6_block]
  subst hk hv
  have e2 : ((win0_6.blk t).view.emb y 2 : Fin 96) = y 2 := by refine Fin.ext ?_; blk_simp [index_out6]
  have e3 : ((win0_6.blk t).view.emb y 3 : Fin 99) = y 3 := by refine Fin.ext ?_; blk_simp [index_out6]
  unfold blockProducts arrayProducts
  rw [e2, e3]
  refine congrArg₂ (fun f g => blockDiag f g (y 2) (y 3)) ?_ ?_
  · funext a s
    refine congrArg elu1 ?_
    blk_simp [iblk0]
    refine congrArg (V c (Pipeline.arrRef spec0 1)) ?_
    blk_ext [index_in1, index_out6]
  · funext a s
    blk_simp [iblk0]
    refine congrArg (V c (Pipeline.arrRef spec0 2)) ?_
    blk_ext [index_in2, index_out6]

end Cert.Proof.Stats
-- ==== Proof.Pick.lean ====
module

public import Mathlib.Data.EReal.Basic
public import Idealize.ShloMosaic.Lib.PlanTiles.StableSort
public import Idealize.ShloMosaic.PureOps

@[expose] public section

noncomputable section

namespace Cert.Proof

open Idealize.ShloMosaic

/-! The greatest entries of a row, taken one at a time, and as a stable sort lists them. -/

/-- `j` is the first position at which the row `g` takes its greatest value. -/
def IsFirst (g : Fin 256 → EReal) (j : Fin 256) : Prop := (∀ i, g i ≤ g j) ∧ ∀ i, i < j → g i < g j

/-- A row has at most one first greatest position. -/
theorem IsFirst.unique {g : Fin 256 → EReal} {i j : Fin 256} (hi : IsFirst g i) (hj : IsFirst g j) : i = j := by
  rcases lt_trichotomy i j with h | h | h
  · exact absurd (hj.2 i h) (not_lt.2 (hi.1 j))
  · exact h
  · exact absurd (hi.2 j h) (not_lt.2 (hj.1 i))

/-- A row has a first greatest position. -/
theorem exists_isFirst (g : Fin 256 → EReal) : ∃ j, IsFirst g j := by
  obtain ⟨m, -, hm⟩ := Finset.exists_max_image (Finset.univ : Finset (Fin 256)) g ⟨0, Finset.mem_univ _⟩
  obtain ⟨j, hj, hmin⟩ := Finset.exists_min_image (Finset.univ.filter fun i => g i = g m) id ⟨m, by simp⟩
  have hjm : g j = g m := (Finset.mem_filter.1 hj).2
  refine ⟨j, fun i => hjm ▸ hm i (Finset.mem_univ i), fun i hij => ?_⟩
  refine lt_of_le_of_ne (hjm ▸ hm i (Finset.mem_univ i)) fun h => ?_
  exact absurd (hmin i (Finset.mem_filter.2 ⟨Finset.mem_univ i, h.trans hjm⟩)) (not_le.2 hij)

/-- The first greatest position of a row. -/
def first (g : Fin 256 → EReal) : Fin 256 := (exists_isFirst g).choose

/-- The first greatest position, characterised. -/
theorem first_eq_iff {g : Fin 256 → EReal} {j : Fin 256} : first g = j ↔ IsFirst g j :=
  ⟨fun h => h ▸ (exists_isFirst g).choose_spec, fun h => (exists_isFirst g).choose_spec.unique h⟩

/-- A row with its first greatest entry taken out. -/
def drop (g : Fin 256 → EReal) : Fin 256 → EReal := fun j => if j = first g then ⊥ else g j

/-- A row with its `k` first greatest entries taken out. -/
def rest (k : ℕ) (g : Fin 256 → EReal) : Fin 256 → EReal := drop^[k] g

/-- The position of the entry that is taken out in round `k`. -/
def pick (k : ℕ) (g : Fin 256 → EReal) : Fin 256 := first (rest k g)

/-- One more round takes one more entry out. -/
theorem rest_succ (k : ℕ) (g : Fin 256 → EReal) : rest (k + 1) g = drop (rest k g) := Function.iterate_succ_apply' drop k g

/-- Along an order of the positions by value, greater first, equal ones by position, round `k` takes the `k`-th. -/
theorem pick_eq_of_ordered (g : Fin 256 → EReal) (hg : ∀ i, ⊥ < g i) (σ : Fin 256 → Fin 256) (hσ : Function.Surjective σ)
    (ho : ∀ i j, i < j → g (σ j) < g (σ i) ∨ (g (σ i) = g (σ j) ∧ σ i < σ j)) (k : ℕ) (hk : k < 256) :
    pick k g = σ ⟨k, hk⟩ := by
  have inj : Function.Injective σ := Finite.injective_iff_surjective.2 hσ
  have step : ∀ k (hk : k < 256), (∀ m : Fin 256, rest k g (σ m) = if m.val < k then ⊥ else g (σ m)) → pick k g = σ ⟨k, hk⟩ := by
    intro k hk h
    refine first_eq_iff.2 ⟨fun i => ?_, fun i hi => ?_⟩
    · obtain ⟨m, rfl⟩ := hσ i
      rw [h, h ⟨k, hk⟩, if_neg (lt_irrefl k)]
      split
      · exact bot_le
      · rename_i hm
        rcases lt_or_eq_of_le (not_lt.1 hm) with h1 | h1
        · rcases ho ⟨k, hk⟩ m h1 with h2 | h2
          · exact h2.le
          · exact h2.1.ge
        · exact (congrArg (fun x => g (σ x)) (Fin.ext h1.symm : m = ⟨k, hk⟩)).le
    · obtain ⟨m, rfl⟩ := hσ i
      rw [h, h ⟨k, hk⟩, if_neg (lt_irrefl k)]
      split
      · exact hg _
      · rename_i hm
        rcases lt_or_eq_of_le (not_lt.1 hm) with h1 | h1
        · rcases ho ⟨k, hk⟩ m h1 with h2 | h2
          · exact h2
          · exact absurd h2.2 (not_lt.2 hi.le)
        · exact absurd hi (by rw [(Fin.ext h1.symm : m = ⟨k, hk⟩)]; exact lt_irrefl _)
  have all : ∀ k (hk : k < 256), ∀ m : Fin 256, rest k g (σ m) = if m.val < k then ⊥ else g (σ m) := by
    intro k
    induction k with
    | zero => intro _ m; simp [rest]
    | succ k ih =>
      intro hk m
      have hp := step k (by omega) (ih (by omega))
      rw [rest_succ]
      show (if σ m = pick k g then ⊥ else rest k g (σ m)) = _
      rw [hp, ih (by omega)]
      by_cases h1 : m.val = k
      · rw [if_pos (congrArg σ (Fin.ext h1)), if_pos (by omega)]
      · rw [if_neg (fun h => h1 (congrArg Fin.val (inj h)))]
        by_cases h2 : m.val < k
        · rw [if_pos h2, if_pos (by omega)]
        · rw [if_neg h2, if_neg (by omega)]
  exact step k hk (all k hk)

/-- How many entries of the row lie below the one at `i`. -/
def rank (g : Fin 256 → EReal) (i : Fin 256) : ℕ := (Finset.univ.filter fun j => g j < g i).card

/-- The ranks order the positions as the values do. -/
theorem rank_lt_iff (g : Fin 256 → EReal) (i j : Fin 256) : rank g i < rank g j ↔ g i < g j := by
  have mono : ∀ {a b : Fin 256}, g a ≤ g b → rank g a ≤ rank g b := fun h =>
    Finset.card_le_card fun x hx => by
      rw [Finset.mem_filter] at hx ⊢
      exact ⟨hx.1, hx.2.trans_le h⟩
  constructor
  · intro h
    by_contra hn
    exact absurd (mono (not_lt.1 hn)) (not_le.2 h)
  · intro h
    refine Finset.card_lt_card ⟨fun x hx => ?_, fun hs => ?_⟩
    · rw [Finset.mem_filter] at hx ⊢
      exact ⟨hx.1, hx.2.trans h⟩
    · exact absurd (Finset.mem_filter.1 (hs (Finset.mem_filter.2 ⟨Finset.mem_univ i, h⟩))).2 (lt_irrefl _)

/-- A stable sort by a number, greater first, keeps equal ones in order of position. -/
theorem sortedFrom_ordered {n : ℕ} (G : Fin n → ℕ) (i j : Fin n) (hij : i < j) :
    let σ := sortedFrom fun a b : Fin n => decide (G b < G a)
    G (σ j) < G (σ i) ∨ (G (σ i) = G (σ j) ∧ σ i < σ j) :=
  List.pairwise_iff_get.mp (PlanTiles.pairwise_stableSort_lex G (· < ·) (List.finRange n) (List.pairwise_lt_finRange n))
    (i.cast (length_sortPositions n _).symm) (j.cast (length_sortPositions n _).symm)
    (by simp only [Fin.lt_def, Fin.val_cast]; exact hij)

/-- A stable sort of the positions, greater values first, lists them in the order in which the rounds take them. -/
theorem sortedFrom_eq_pick (g : Fin 256 → EReal) (hg : ∀ i, ⊥ < g i) (before : Fin 256 → Fin 256 → Bool)
    (hb : ∀ i j, before i j = decide (g j < g i)) (k : ℕ) (hk : k < 256) :
    sortedFrom before ⟨k, hk⟩ = pick k g := by
  have hR : before = fun i j => decide (rank g j < rank g i) := by
    funext i j
    rw [hb]
    exact decide_eq_decide.2 (rank_lt_iff g j i).symm
  rw [hR]
  refine (pick_eq_of_ordered g hg _ (sortedFrom_surjective _) (fun i j hij => ?_) k hk).symm
  rcases sortedFrom_ordered (rank g) i j hij with h | ⟨h1, h2⟩
  · exact Or.inl ((rank_lt_iff g _ _).1 h)
  · refine Or.inr ⟨le_antisymm ?_ ?_, h2⟩
    · exact not_lt.1 fun h => absurd ((rank_lt_iff g _ _).2 h) (by rw [h1]; exact lt_irrefl _)
    · exact not_lt.1 fun h => absurd ((rank_lt_iff g _ _).2 h) (by rw [h1]; exact lt_irrefl _)

end Cert.Proof
-- ==== Proof.RouteRounds.lean ====
module

public import proofs.«01_k».proof.Proof.Spec
public import proofs.«01_k».proof.Proof.Pick
public import proofs.«01_k».proof.Proof.Gen.KernelIdeal.Frame
public import Idealize.ShloMosaic.Lib.Pointwise
public import Idealize.ShloMosaic.Lib.SortNet.Extract

@[expose] public section

set_option maxRecDepth 16384

noncomputable section

namespace Cert.Proof.Route

open Idealize.ShloMosaic Idealize.ShloMosaic.TcCoe Cert.KernelIdeal Cert.KernelIdeal.Gen

/-! The eight rounds of the second call: each marks the first greatest entry of every row and takes it out. -/

section Rounds
variable {F : FTy → Type} [FloatOps F]

/-- Where each row of `cur` has its first greatest entry. -/
def chosen (cur : FVec F S256x256 .f32) : IVec S256x256 1 :=
  cmpi .eq (iota .tc S256x256 32 [1] iota_S256x256_d1_w32)
    (broadcastTo S256x256 (shapeCast S256x1 (multiReductionI .minsi [1] S256
      (select (cmpf .oeq cur (broadcastTo S256x256 (shapeCast S256x1
        (multiReduction .maximumf [1] S256 cur 0xFF800000#32 reduces_S256x256_S256 (.inl rfl) rfl) shapeCasts_S256_S256x1) broadcasts_S256x1_S256x256))
        (iota .tc S256x256 32 [1] iota_S256x256_d1_w32) (broadcast S256x256 256#32))
      2147483647#32 reduces_S256x256_S256 rfl) shapeCasts_S256_S256x1) broadcasts_S256x1_S256x256)

/-- The scores with the entries of the first `k` rounds taken out. -/
def scoresAfter (s : FVec F S256x256 .f32) : ℕ → FVec F S256x256 .f32
  | 0 => s
  | k + 1 => select (chosen (scoresAfter s k)) (broadcast S256x256 (Scalar.ofBits .f32 0xFF800000#32)) (scoresAfter s k)

/-- How often the first `k` rounds chose each entry. -/
def countAfter (s : FVec F S256x256 .f32) : ℕ → FVec F S256x256 .f32
  | 0 => broadcast S256x256 (Scalar.ofBits .f32 0x00000000#32)
  | k + 1 => addf (countAfter s k) (sitofp .f32 (extui 32 (chosen (scoresAfter s k)) natLt_1_32))

/-- What the body leaves in the buffer of gathered products: the counts after eight rounds, times the products. -/
theorem out4_eq (x0 x1 x2 : Vec F S1x256x96 .f32) (x3 : Vec F S1x256x9504 .f32) :
    out1_4 x0 x1 x2 x3 = View.canon [⟨r1_2, k1_pay2 (countAfter (k1_pay5 (View.ld x0 r1_0) (View.ld x1 r1_0)) 8) (View.ld x3 r1_2)⟩] := rfl

end Rounds

/-- The greatest entry of a row, folded from minus infinity, is the entry at the first greatest position. -/
theorem fold_max_eq (g : Fin 256 → EReal) :
    Finset.fold max (Ideal.ofBits FTy.f32 0xFF800000#32) (fun x => g x) Finset.univ = g (first g) := by
  have hf : IsFirst g (first g) := first_eq_iff.1 rfl
  have hbot : Ideal.ofBits FTy.f32 0xFF800000#32 = ⊥ := by simp [Ideal.ofBits, Ideal.ieee]
  rw [hbot]
  exact le_antisymm ((Finset.fold_max_le _).2 ⟨bot_le, fun x _ => hf.1 x⟩) ((Finset.le_fold_max _).2 (Or.inr ⟨_, Finset.mem_univ _, le_rfl⟩))

/-- A small number as a 32-bit word is itself as a signed integer. -/
theorem toInt_word (n : ℕ) (hn : n ≤ 4096) : (BitVec.ofNat 32 n).toInt = n := by
  rw [BitVec.toInt_eq_toNat_bmod, BitVec.toNat_ofNat, Nat.mod_eq_of_lt (by omega)]
  exact Int.bmod_eq_of_le (by omega) (by omega)

/-- The least column number among the columns that hold the row's greatest entry is its first greatest position. -/
theorem fold_min_eq (g : Fin 256 → EReal) :
    Finset.fold IntOp.minsi (2147483647#32) (fun x : Fin 256 => if g x = g (first g) then BitVec.ofNat 32 x.val else 256#32) Finset.univ
      = BitVec.ofNat 32 (first g).val := by
  have hf : IsFirst g (first g) := first_eq_iff.1 rfl
  have hx := (first g).isLt
  refine BitVec.eq_of_toInt_eq ?_
  rw [← Finset.fold_hom (op' := min) (m := BitVec.toInt) (fun a b => SortNet.toInt_minsi a b), toInt_word (first g).val (by omega)]
  refine le_antisymm ((Finset.fold_min_le _).2 (Or.inr ⟨first g, Finset.mem_univ _, ?_⟩)) ((Finset.le_fold_min _).2 ⟨?_, fun x _ => ?_⟩)
  · rw [if_pos rfl, toInt_word (first g).val (by omega)]
  · show ((first g).val : ℤ) ≤ 2147483647; omega
  · have hlt := x.isLt
    by_cases h : g x = g (first g)
    · rw [if_pos h, toInt_word x.val (by omega)]
      have : first g ≤ x := not_lt.1 fun h' => absurd h (hf.2 x h').ne
      exact_mod_cast this
    · rw [if_neg h]; show ((first g).val : ℤ) ≤ 256; omega

/-- Two column numbers compared as words. -/
theorem eqWord (a b : Fin 256) :
    IntOp.cmpi CmpIPredicate.eq (BitVec.ofNat 32 a.val) (BitVec.ofNat 32 b.val) = if a = b then 1#1 else 0#1 := by
  have ha := a.isLt
  have hb := b.isLt
  by_cases h : a = b
  · subst h; simp [IntOp.cmpi]
  · rw [if_neg h]
    show BitVec.ofBool (BitVec.ofNat 32 a.val == BitVec.ofNat 32 b.val) = 0#1
    rw [beq_eq_false_iff_ne.2 fun e => h (Fin.ext ?_)]; · rfl
    have := congrArg BitVec.toInt e
    rw [toInt_word a.val (by omega), toInt_word b.val (by omega)] at this
    exact_mod_cast this

/-- The mask of one round, at an entry. -/
theorem chosen_apply (cur : FVec Ideal S256x256 .f32) (w j : Fin 256) :
    chosen cur (ix2 w j) = if j = first (fun i => cur (ix2 w i)) then 1#1 else 0#1 := by
  unfold chosen
  pointwise
  rw [fold_max_eq (fun i => cur (ix2 w i)), fold_min_eq (fun i => cur (ix2 w i)), eqWord]

/-- The scores after `k` rounds: each row with its `k` first greatest entries taken out. -/
theorem scoresAfter_apply (s : FVec Ideal S256x256 .f32) (k : ℕ) (w j : Fin 256) :
    scoresAfter s k (ix2 w j) = rest k (fun i => s (ix2 w i)) j := by
  induction k generalizing j with
  | zero => rfl
  | succ k ih =>
    have hrow : (fun i => scoresAfter s k (ix2 w i)) = rest k (fun i => s (ix2 w i)) := funext ih
    have hbot : Ideal.ofBits FTy.f32 0xFF800000#32 = ⊥ := by simp [Ideal.ofBits, Ideal.ieee]
    rw [rest_succ]
    show Scalar.select (chosen (scoresAfter s k) (ix2 w j)) (Ideal.ofBits FTy.f32 0xFF800000#32) (scoresAfter s k (ix2 w j)) = _
    rw [chosen_apply, hrow, ih, hbot]
    unfold drop
    by_cases h : j = first (rest k fun i => s (ix2 w i))
    · rw [if_pos h, if_pos h]; rfl
    · rw [if_neg h, if_neg h]; rfl

/-- The counts after `k` rounds. -/
theorem countAfter_apply (s : FVec Ideal S256x256 .f32) (k : ℕ) (w j : Fin 256) :
    countAfter s k (ix2 w j) = ∑ r ∈ Finset.range k, if j = pick r (fun i => s (ix2 w i)) then (1 : EReal) else 0 := by
  induction k with
  | zero => show Ideal.ofBits FTy.f32 0#32 = _; simp [Ideal.ofBits, Ideal.ieee]
  | succ k ih =>
    have hrow : (fun i => scoresAfter s k (ix2 w i)) = rest k (fun i => s (ix2 w i)) := funext fun i => scoresAfter_apply s k w i
    rw [Finset.sum_range_succ, ← ih]
    show countAfter s k (ix2 w j) + ((((BitVec.setWidth 32 (chosen (scoresAfter s k) (ix2 w j))).toInt : ℝ)) : EReal) = _
    rw [chosen_apply, hrow]
    refine congrArg (countAfter s k (ix2 w j) + ·) ?_
    show _ = if j = first (rest k fun i => s (ix2 w i)) then (1 : EReal) else 0
    by_cases h : j = first (rest k fun i => s (ix2 w i))
    · rw [if_pos h, if_pos h]; simp
    · rw [if_neg h, if_neg h]; simp

/-- Summing with the counts as weights takes the chosen entries. -/
theorem sum_count (p : ℕ → Fin 256) (k : ℕ) (x : Fin 256 → EReal) :
    ∑ j, (∑ r ∈ Finset.range k, if j = p r then (1 : EReal) else 0) * x j = ∑ r ∈ Finset.range k, x (p r) := by
  induction k with
  | zero => simp
  | succ k ih =>
    have hpos : ∀ j, 0 ≤ ∑ r ∈ Finset.range k, if j = p r then (1 : EReal) else 0 := fun j =>
      Finset.sum_nonneg fun r _ => by split <;> simp
    have h1 : ∀ j, (0 : EReal) ≤ if j = p k then (1 : EReal) else 0 := fun j => by split <;> simp
    simp only [Finset.sum_range_succ, EReal.right_distrib_of_nonneg (hpos _) (h1 _), Finset.sum_add_distrib, ih]
    simp

/-- The routing scores: inner products of query means with key means. -/
theorem sim_apply (a b : Vec Ideal S1x256x96 .f32) (w j : Fin 256) :
    k1_pay5 a b (ix2 w j) = ∑ c : Fin 96, a (ix3 (0 : Fin 1) w c) * b (ix3 (0 : Fin 1) j c) := by
  unfold_payloads
  pointwise [dot_S256x96_S256x96_S256x256_1_1_0_0_n_n]

/-- The gathered products of a window: the sum of the products of the eight windows chosen for it. -/
theorem gathered_apply (s : FVec Ideal S256x256 .f32) (p : Vec Ideal S1x256x9504 .f32) (w : Fin 256) (n : Fin 9504) :
    k1_pay2 (countAfter s 8) p (ix3 (0 : Fin 1) w n)
      = ∑ r ∈ Finset.range 8, p (ix3 (0 : Fin 1) (pick r fun i => s (ix2 w i)) n) := by
  unfold_payloads
  pointwise [dot_S256x256_S256x9504_S256x9504_1_0_0_1_n_n]
  simp only [countAfter_apply]
  exact sum_count (fun r => pick r fun i => s (ix2 w i)) 8 (fun j => p (ix3 (0 : Fin 1) j n))

/-- The products of the means of all windows. -/
def meanProducts (x1 x2 : Vec Ideal S1x256x96 .f32) : FVec Ideal S1x96x99 .f32 :=
  k1_pay1 (k1_pay27 (k1_pay23 (k1_pay3 x1) (k1_pay4 x2) (k1_pay20 (k1_pay3 x1)) (k1_pay21 (k1_pay3 x1)) (k1_pay22 (k1_pay3 x1)) (Scalar.ofBits .f32 0x00000000#32)) k1_pay24 (iota .tc S96x96 32 [1] iota_S96x96_d1_w32) 32#32 k1_pay25 k1_pay26 (Scalar.extui (Scalar.cmpi .sgt 32#32 0#32)) (Scalar.extui (Scalar.cmpi .slt 32#32 0#32)))

/-- What the body leaves in the buffer of the means' products. -/
theorem out5_eq (x0 x1 x2 : Vec Ideal S1x256x96 .f32) (x3 : Vec Ideal S1x256x9504 .f32) :
    out1_5 x0 x1 x2 x3 = View.canon [⟨r1_1, meanProducts (View.ld x1 r1_0) (View.ld x2 r1_0)⟩] := rfl

/-- The products of the means, at an index. -/
theorem meanProducts_apply (k v : Vec Ideal S1x256x96 .f32) (c : Fin 96) (j : Fin 99) :
    meanProducts k v (ix3 (0 : Fin 1) c j)
      = blockDiag (fun c t => elu1 (k (ix3 (0 : Fin 1) t c))) (fun c t => v (ix3 (0 : Fin 1) t c)) c j := by
  unfold meanProducts
  unfold_payloads
  pointwise [dot_S256x96_S256x97_S96x97_0_0_1_1_n_n]
  have hc := c.isLt
  have hj := j.isLt
  unfold blockDiag
  simp only [elu1_branches]
  by_cases h : j.val < 96
  · simp only [dif_pos h]
    rw [headWord _ hc, headWord _ h, sameWord _ _ (by omega) (by omega)]
  · simp only [dif_neg h]
    rw [headWord _ hc, sameWord _ _ (by omega) (by omega)]

end Cert.Proof.Route
-- ==== Proof.RouteArray.lean ====
module

public import proofs.«01_k».proof.Proof.RouteRounds
public import Idealize.ShloMosaic.Lib.Pipeline.ValueKit

@[expose] public section

set_option maxRecDepth 16384

noncomputable section

namespace Cert.Proof.Route

open Idealize.ShloMosaic Idealize.ShloMosaic.TcCoe Cert.KernelIdeal Cert.KernelIdeal.Gen
open Idealize.ShloMosaic.Pipeline (Dat)

/-! What the second call leaves in its two result arrays. -/

/-- The windows' scores for window `w`: the inner products of its query mean with their key means. -/
def scores {n : ℕ} (qm km : (⟨3, ![n, 256, 96]⟩ : Shape).Idx → EReal) (b : Fin n) (w j : Fin 256) : EReal :=
  ∑ c : Fin 96, qm (ix3 b w c) * km (ix3 b j c)

/-- The gathered products of a block. -/
def blockGathered (qm km : Vec Ideal S1x256x96 .f32) (p : Vec Ideal S1x256x9504 .f32) : S1x256x9504.Idx → EReal :=
  fun i => ∑ r ∈ Finset.range 8, p (ix3 (i 0) (pick r (scores qm km (i 0) (i 1))) (i 2))

/-- The gathered products of all windows. -/
def arrayGathered (qm km : S2x256x96.Idx → EReal) (p : S2x256x9504.Idx → EReal) : S2x256x9504.Idx → EReal :=
  fun i => ∑ r ∈ Finset.range 8, p (ix3 (i 0) (pick r (scores qm km (i 0) (i 1))) (i 2))

/-- The means' products of a block. -/
def blockMeans (km vm : Vec Ideal S1x256x96 .f32) : S1x96x99.Idx → EReal :=
  fun i => blockDiag (fun c t => elu1 (km (ix3 (i 0) t c))) (fun c t => vm (ix3 (i 0) t c)) (i 1) (i 2)

/-- The means' products of both batches. -/
def arrayMeans (km vm : S2x256x96.Idx → EReal) : S2x96x99.Idx → EReal :=
  fun i => blockDiag (fun c t => elu1 (km (ix3 (i 0) t c))) (fun c t => vm (ix3 (i 0) t c)) (i 1) (i 2)

/-- The means are read whole. -/
theorem means_ld (x : Vec Ideal S1x256x96 .f32) : View.ld x r1_0 = x := View.ld_unit_zero (by funext a; fin_cases a <;> rfl) _ x

/-- The products are read whole. -/
theorem products_ld (x : Vec Ideal S1x256x9504 .f32) : View.ld x r1_2 = x := View.ld_unit_zero (by funext a; fin_cases a <;> rfl) _ x

variable (x0 x1 x2 : Vec Ideal S1x256x96 .f32) (x3 : Vec Ideal S1x256x9504 .f32)

/-- The buffer of gathered products after a step. -/
theorem out4_block : out1_4 x0 x1 x2 x3 = blockGathered x0 x1 x3 := by
  rw [out4_eq, means_ld, means_ld, products_ld]
  refine (View.canon_unit_zero (Val := Elt Ideal) (S := S1x256x9504) (e := .f32) (by funext a; fin_cases a <;> rfl) _ _).trans ?_
  funext y
  obtain ⟨a, w, n, rfl⟩ : ∃ (a : Fin 1) (w : Fin 256) (n : Fin 9504), y = ix3 a w n := ⟨_, _, _, eq_ix3 y⟩
  obtain rfl : a = 0 := Subsingleton.elim _ _
  refine (gathered_apply _ _ w n).trans ?_
  simp only [sim_apply]
  rfl

/-- The buffer of the means' products after a step. -/
theorem out5_block : out1_5 x0 x1 x2 x3 = blockMeans x1 x2 := by
  rw [out5_eq, means_ld, means_ld]
  refine (View.canon_unit_zero (Val := Elt Ideal) (S := S1x96x99) (e := .f32) (by funext a; fin_cases a <;> rfl) _ _).trans ?_
  funext y
  obtain ⟨a, c, j, rfl⟩ : ∃ (a : Fin 1) (c : Fin 96) (j : Fin 99), y = ix3 a c j := ⟨_, _, _, eq_ix3 y⟩
  obtain rfl : a = 0 := Subsingleton.elim _ _
  exact meanProducts_apply _ _ c j

/-- The batch of a step's block of query means. -/
theorem index0 : ∀ t : Fin cfg1.N, win1_0.index t = ![t.val, 0, 0] :=
  (by decide +kernel : ∀ t : Fin grid1.N, win1_0.index t = ![t.val, 0, 0])

/-- The batch of a step's block of key means. -/
theorem index1 : ∀ t : Fin cfg1.N, win1_1.index t = ![t.val, 0, 0] :=
  (by decide +kernel : ∀ t : Fin grid1.N, win1_1.index t = ![t.val, 0, 0])

/-- The batch of a step's block of value means. -/
theorem index2 : ∀ t : Fin cfg1.N, win1_2.index t = ![t.val, 0, 0] :=
  (by decide +kernel : ∀ t : Fin grid1.N, win1_2.index t = ![t.val, 0, 0])

/-- The batch of a step's block of products. -/
theorem index3 : ∀ t : Fin cfg1.N, win1_3.index t = ![t.val, 0, 0] :=
  (by decide +kernel : ∀ t : Fin grid1.N, win1_3.index t = ![t.val, 0, 0])

/-- The batch of a step's block of gathered products. -/
theorem index4 : ∀ t : Fin cfg1.N, win1_4.index t = ![t.val, 0, 0] :=
  (by decide +kernel : ∀ t : Fin grid1.N, win1_4.index t = ![t.val, 0, 0])

/-- The batch of a step's block of the means' products. -/
theorem index5 : ∀ t : Fin cfg1.N, win1_5.index t = ![t.val, 0, 0] :=
  (by decide +kernel : ∀ t : Fin grid1.N, win1_5.index t = ![t.val, 0, 0])

variable (V : (c : Dev nD) → (b : Ref sig .tc) → Buf (Elt Ideal) ((c : Thread nD τ).loc b)) (c : Dev nD)

/-- Result 0: the gathered products. -/
theorem final4 (qm km : S2x256x96.Idx → EReal) (p : S2x256x9504.Idx → EReal)
    (hq : V c (Pipeline.arrRef spec1 0) = qm) (hk : V c (Pipeline.arrRef spec1 1) = km) (hp : V c (Pipeline.arrRef spec1 3) = p) :
    (dat1 V c).arrAt 4 cfg1.N = arrayGathered qm km p := by
  refine (dat1 V c).arrAt_eq_of_covers 4 _ (by decide +kernel) fun t hf y => ?_
  blk_simp
  rw [after1_4, out4_block]
  subst hq hk hp
  unfold blockGathered arrayGathered
  refine congrArg (fun f : ℕ → EReal => ∑ r ∈ Finset.range 8, f r) (funext fun r => ?_)
  have e1 : ((win1_4.blk t).view.emb y 1 : Fin 256) = y 1 := by refine Fin.ext ?_; blk_simp [index4]
  have e2 : ((win1_4.blk t).view.emb y 2 : Fin 9504) = y 2 := by refine Fin.ext ?_; blk_simp [index4]
  have hs : scores (n := 1) (iblk1 V c 0 t) (iblk1 V c 1 t) (y 0) (y 1)
      = scores (n := 2) (V c (Pipeline.arrRef spec1 0)) (V c (Pipeline.arrRef spec1 1)) ((win1_4.blk t).view.emb y 0) (y 1) := by
    funext j
    refine Finset.sum_congr rfl fun d _ => congrArg₂ (· * ·) ?_ ?_
    · blk_simp [iblk1]
      refine congrArg (V c (Pipeline.arrRef spec1 0)) ?_
      blk_ext [index0, index4]
    · blk_simp [iblk1]
      refine congrArg (V c (Pipeline.arrRef spec1 1)) ?_
      blk_ext [index1, index4]
  rw [e1, e2, ← hs]
  blk_simp [iblk1]
  refine congrArg (V c (Pipeline.arrRef spec1 3)) ?_
  blk_ext [index3, index4]

/-- Result 1: the means' products. -/
theorem final5 (km vm : S2x256x96.Idx → EReal) (hk : V c (Pipeline.arrRef spec1 1) = km) (hv : V c (Pipeline.arrRef spec1 2) = vm) :
    (dat1 V c).arrAt 5 cfg1.N = arrayMeans km vm := by
  refine (dat1 V c).arrAt_eq_of_covers 5 _ (by decide +kernel) fun t hf y => ?_
  blk_simp
  rw [after1_5, out5_block]
  subst hk hv
  have e1 : ((win1_5.blk t).view.emb y 1 : Fin 96) = y 1 := by refine Fin.ext ?_; blk_simp [index5]
  have e2 : ((win1_5.blk t).view.emb y 2 : Fin 99) = y 2 := by refine Fin.ext ?_; blk_simp [index5]
  unfold blockMeans arrayMeans
  rw [e1, e2]
  refine congrArg₂ (fun f h => blockDiag f h (y 1) (y 2)) ?_ ?_
  · funext d s
    refine congrArg elu1 ?_
    blk_simp [iblk1]
    refine congrArg (V c (Pipeline.arrRef spec1 1)) ?_
    blk_ext [index1, index5]
  · funext d s
    blk_simp [iblk1]
    refine congrArg (V c (Pipeline.arrRef spec1 2)) ?_
    blk_ext [index2, index5]

end Cert.Proof.Route
-- ==== Proof.AttendValue.lean ====
module

public import proofs.«01_k».proof.Proof.Spec
public import proofs.«01_k».proof.Proof.Gen.KernelIdeal.Frame
public import Idealize.ShloMosaic.Lib.Pointwise

@[expose] public section

set_option maxRecDepth 16384

noncomputable section

namespace Cert.Proof.Attend

open Idealize.ShloMosaic Idealize.ShloMosaic.TcCoe Cert.KernelIdeal Cert.KernelIdeal.Gen

/-! What the third call computes for one window. -/

/-- One window's result, from its queries, its gathered products and the means' products. -/
def attend {F : FTy → Type} [FloatOps F] (q : Vec F S1x1x96x196 .f32) (g : Vec F S1x1x96x99 .f32) (m : Vec F S1x96x99 .f32) : FVec F S1x1x96x196 .f32 :=
  k2_pay1 k2_pay2 (k2_pay3 m) q g

/-- The staging buffer after a step: the eight windows' results. -/
theorem out3_eq {F : FTy → Type} [FloatOps F] (x0 : Vec F S1x8x96x196 .f32) (x1 : Vec F S1x8x96x99 .f32) (x2 : Vec F S1x96x99 .f32) :
    out2_3 x0 x1 x2 = View.canon [
      ⟨r2_15, attend (View.ld x0 r2_15) (View.ld x1 r2_16) (View.ld x2 r2_0)⟩,
      ⟨r2_13, attend (View.ld x0 r2_13) (View.ld x1 r2_14) (View.ld x2 r2_0)⟩,
      ⟨r2_11, attend (View.ld x0 r2_11) (View.ld x1 r2_12) (View.ld x2 r2_0)⟩,
      ⟨r2_9, attend (View.ld x0 r2_9) (View.ld x1 r2_10) (View.ld x2 r2_0)⟩,
      ⟨r2_7, attend (View.ld x0 r2_7) (View.ld x1 r2_8) (View.ld x2 r2_0)⟩,
      ⟨r2_5, attend (View.ld x0 r2_5) (View.ld x1 r2_6) (View.ld x2 r2_0)⟩,
      ⟨r2_3, attend (View.ld x0 r2_3) (View.ld x1 r2_4) (View.ld x2 r2_0)⟩,
      ⟨r2_1, attend (View.ld x0 r2_1) (View.ld x1 r2_2) (View.ld x2 r2_0)⟩] := rfl

/-- One window's result at an index. -/
theorem attend_apply (q : Vec Ideal S1x1x96x196 .f32) (g : Vec Ideal S1x1x96x99 .f32) (m : Vec Ideal S1x96x99 .f32) (c : Fin 96) (t : Fin 196) :
    attend q g m (ix4 (0 : Fin 1) (0 : Fin 1) c t)
      = message (fun d j => g (ix4 (0 : Fin 1) (0 : Fin 1) d j) + m (ix3 (0 : Fin 1) d j)) (fun d => elu1 (q (ix4 (0 : Fin 1) (0 : Fin 1) d t))) c := by
  unfold attend
  unfold_payloads
  pointwise [dot_S96x99_S96x196_S99x196_0_0_1_1_n_n, dot_S3x96_S3x196_S96x196_0_0_1_1_n_n]
  simp only [elu1_branches]
  have hc := c.isLt
  have hs : ∀ h : Fin 3, FloatOps.sitofp (F := Ideal) FTy.f32
      (BitVec.setWidth 32 (IntOp.cmpi CmpIPredicate.eq (BitVec.ofNat 32 (c.val / 32)) (BitVec.ofNat 32 h.val))) = same (c.val / 32) h.val :=
    fun h => sameWord _ _ (by omega) (by have := h.isLt; omega)
  rw [headWord _ hc]
  simp only [hs]
  rfl

end Cert.Proof.Attend
-- ==== Proof.AttendArray.lean ====
module

public import proofs.«01_k».proof.Proof.AttendValue
public import Idealize.ShloMosaic.Lib.Pipeline.ValueKit

@[expose] public section

set_option maxRecDepth 16384

noncomputable section

namespace Cert.Proof.Attend

open Idealize.ShloMosaic Idealize.ShloMosaic.TcCoe Cert.KernelIdeal Cert.KernelIdeal.Gen
open Idealize.ShloMosaic.Pipeline (Dat)

/-! What the third call leaves in its result array. -/

/-- The results of a block of eight windows. -/
def blockMessages (q : Vec Ideal S1x8x96x196 .f32) (g : Vec Ideal S1x8x96x99 .f32) (m : Vec Ideal S1x96x99 .f32) : S1x8x96x196.Idx → EReal :=
  fun i => message (fun d j => g (ix4 (i 0) (i 1) d j) + m (ix3 (i 0) d j)) (fun d => elu1 (q (ix4 (i 0) (i 1) d (i 3)))) (i 2)

/-- The results of a whole array of windows. -/
def arrayMessages (q : S2x256x96x196.Idx → EReal) (g : S2x256x96x99.Idx → EReal) (m : S2x96x99.Idx → EReal) : S2x256x96x196.Idx → EReal :=
  fun i => message (fun d j => g (ix4 (i 0) (i 1) d j) + m (ix3 (i 0) d j)) (fun d => elu1 (q (ix4 (i 0) (i 1) d (i 3)))) (i 2)

/-- Window `w` of a block of queries, read through its rectangle. -/
theorem query_idx (w : ℕ) (hi : ∀ a, ![0, w, 0, 0] a + S1x1x96x196.size a ≤ S1x8x96x196.size a) (hw : w < 8) (c : Fin 96) (t : Fin 196) :
    (Rect.unit (s := S1x8x96x196) ![0, w, 0, 0] S1x1x96x196.size hi).emb (ix4 (0 : Fin 1) (0 : Fin 1) c t)
      = ix4 (0 : Fin 1) (⟨w, hw⟩ : Fin 8) c t := by
  funext a
  refine Fin.ext ?_
  match a with
  | ⟨0, _⟩ => rfl
  | ⟨1, _⟩ => show w + 1 * 0 = w; omega
  | ⟨2, _⟩ => show 0 + 1 * c.val = c.val; omega
  | ⟨3, _⟩ => show 0 + 1 * t.val = t.val; omega

/-- Window `w` of a block of gathered products, read through its rectangle. -/
theorem tile_idx (w : ℕ) (hi : ∀ a, ![0, w, 0, 0] a + S1x1x96x99.size a ≤ S1x8x96x99.size a) (hw : w < 8) (c : Fin 96) (j : Fin 99) :
    (Rect.unit (s := S1x8x96x99) ![0, w, 0, 0] S1x1x96x99.size hi).emb (ix4 (0 : Fin 1) (0 : Fin 1) c j)
      = ix4 (0 : Fin 1) (⟨w, hw⟩ : Fin 8) c j := by
  funext a
  refine Fin.ext ?_
  match a with
  | ⟨0, _⟩ => rfl
  | ⟨1, _⟩ => show w + 1 * 0 = w; omega
  | ⟨2, _⟩ => show 0 + 1 * c.val = c.val; omega
  | ⟨3, _⟩ => show 0 + 1 * j.val = j.val; omega

variable (x0 : Vec Ideal S1x8x96x196 .f32) (x1 : Vec Ideal S1x8x96x99 .f32) (x2 : Vec Ideal S1x96x99 .f32)

/-- The means' products are read whole. -/
theorem means_ld : View.ld x2 r2_0 = x2 := View.ld_unit_zero (by funext a; fin_cases a <;> rfl) _ x2

/-- Window `w`'s result is that part of the block's. -/
theorem attend_piece (w : ℕ)
    (hi : ∀ a, ![0, w, 0, 0] a + S1x1x96x196.size a ≤ S1x8x96x196.size a)
    (ho : ∀ a, ![0, w, 0, 0] a + S1x1x96x99.size a ≤ S1x8x96x99.size a) (hw : w < 8)
    (y : (Rect.unit (s := S1x8x96x196) ![0, w, 0, 0] S1x1x96x196.size hi).shape.Idx) :
    attend (View.ld x0 (Rect.unit (s := S1x8x96x196) ![0, w, 0, 0] S1x1x96x196.size hi))
      (View.ld x1 (Rect.unit (s := S1x8x96x99) ![0, w, 0, 0] S1x1x96x99.size ho)) (View.ld x2 r2_0) y
      = blockMessages x0 x1 x2 ((Rect.unit (s := S1x8x96x196) ![0, w, 0, 0] S1x1x96x196.size hi).emb y) := by
  obtain ⟨a, b, c, t, rfl⟩ : ∃ (a b : Fin 1) (c : Fin 96) (t : Fin 196), y = ix4 a b c t := ⟨_, _, _, _, eq_ix4 y⟩
  obtain rfl : a = 0 := Subsingleton.elim _ _
  obtain rfl : b = 0 := Subsingleton.elim _ _
  rw [query_idx w hi hw, means_ld]
  refine (attend_apply _ _ _ c t).trans ?_
  have e0 : ∀ d : Fin 96, View.ld x0 (Rect.unit (s := S1x8x96x196) ![0, w, 0, 0] S1x1x96x196.size hi) (ix4 (0 : Fin 1) (0 : Fin 1) d t)
      = x0 (ix4 (0 : Fin 1) (⟨w, hw⟩ : Fin 8) d t) := fun d => congrArg x0 (query_idx w hi hw d t)
  have e1 : ∀ (d : Fin 96) (j : Fin 99), View.ld x1 (Rect.unit (s := S1x8x96x99) ![0, w, 0, 0] S1x1x96x99.size ho) (ix4 (0 : Fin 1) (0 : Fin 1) d j)
      = x1 (ix4 (0 : Fin 1) (⟨w, hw⟩ : Fin 8) d j) := fun d j => congrArg x1 (tile_idx w ho hw d j)
  exact congrArg₂ (fun f h => message f h c) (funext fun d => funext fun j => congrArg (· + x2 (ix3 (0 : Fin 1) d j)) (e1 d j)) (funext fun d => congrArg elu1 (e0 d))

/-- The staging buffer after a step. -/
theorem out3_block : out2_3 x0 x1 x2 = blockMessages x0 x1 x2 := by
  rw [out3_eq]
  funext y
  refine View.canon_apply_of_pieces (Val := Elt Ideal) (e := .f32) (blockMessages x0 x1 x2) _ ?_ y (cover2_3 _ _ _ _ _ _ _ _ y)
  simp only [List.forall_mem_cons, List.not_mem_nil, false_imp_iff, implies_true, and_true]
  exact ⟨attend_piece x0 x1 x2 7 _ _ (by decide), attend_piece x0 x1 x2 6 _ _ (by decide), attend_piece x0 x1 x2 5 _ _ (by decide), attend_piece x0 x1 x2 4 _ _ (by decide), attend_piece x0 x1 x2 3 _ _ (by decide), attend_piece x0 x1 x2 2 _ _ (by decide), attend_piece x0 x1 x2 1 _ _ (by decide), attend_piece x0 x1 x2 0 _ _ (by decide)⟩

/-- The batch and windows of a step's block of queries. -/
theorem index_query : ∀ t : Fin cfg2.N, win2_0.index t = ![t.val / 32, t.val % 32, 0, 0] :=
  (by decide +kernel : ∀ t : Fin grid2.N, win2_0.index t = ![t.val / 32, t.val % 32, 0, 0])

/-- The batch and windows of a step's block of gathered products. -/
theorem index_tile : ∀ t : Fin cfg2.N, win2_1.index t = ![t.val / 32, t.val % 32, 0, 0] :=
  (by decide +kernel : ∀ t : Fin grid2.N, win2_1.index t = ![t.val / 32, t.val % 32, 0, 0])

/-- The batch of a step's block of the means' products. -/
theorem index_means : ∀ t : Fin cfg2.N, win2_2.index t = ![t.val / 32, 0, 0] :=
  (by decide +kernel : ∀ t : Fin grid2.N, win2_2.index t = ![t.val / 32, 0, 0])

/-- The batch and windows of a step's block of results. -/
theorem index_out : ∀ t : Fin cfg2.N, win2_3.index t = ![t.val / 32, t.val % 32, 0, 0] :=
  (by decide +kernel : ∀ t : Fin grid2.N, win2_3.index t = ![t.val / 32, t.val % 32, 0, 0])

variable (V : (c : Dev nD) → (b : Ref sig .tc) → Buf (Elt Ideal) ((c : Thread nD τ).loc b)) (c : Dev nD)

/-- The result array: every window's result. -/
theorem final3 (q : S2x256x96x196.Idx → EReal) (g : S2x256x96x99.Idx → EReal) (m : S2x96x99.Idx → EReal)
    (hq : V c (Pipeline.arrRef spec2 0) = q) (hg : V c (Pipeline.arrRef spec2 1) = g) (hm : V c (Pipeline.arrRef spec2 2) = m) :
    (dat2 V c).arrAt 3 cfg2.N = arrayMessages q g m := by
  refine (dat2 V c).arrAt_eq_of_covers 3 _ (by decide +kernel) fun t hf y => ?_
  blk_simp
  rw [after2_3, out3_block]
  subst hq hg hm
  have e2 : ((win2_3.blk t).view.emb y 2 : Fin 96) = y 2 := by refine Fin.ext ?_; blk_simp [index_out]
  unfold blockMessages arrayMessages
  rw [e2]
  refine congrArg₂ (fun f h => message f h (y 2)) ?_ ?_
  · funext d j
    refine congrArg₂ (· + ·) ?_ ?_
    · blk_simp [iblk2]
      refine congrArg (V c (Pipeline.arrRef spec2 1)) ?_
      blk_ext [index_tile, index_out]
    · blk_simp [iblk2]
      refine congrArg (V c (Pipeline.arrRef spec2 2)) ?_
      blk_ext [index_means, index_out]
  · funext d
    refine congrArg elu1 ?_
    blk_simp [iblk2]
    refine congrArg (V c (Pipeline.arrRef spec2 0)) ?_
    blk_ext [index_query, index_out]

end Cert.Proof.Attend
-- ==== Proof.KernelRun.lean ====
module

public import proofs.«01_k».proof.Proof.StatsArray
public import proofs.«01_k».proof.Proof.RouteArray
public import proofs.«01_k».proof.Proof.AttendArray

@[expose] public section

set_option maxRecDepth 16384

noncomputable section

namespace Cert.Proof.KernelRun

open Idealize Idealize.ShloMosaic Idealize.ShloMosaic.TcCoe Idealize.SL Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! The kernel's run, with what its result array holds at the end. -/

variable (m : (ℓ : Loc nD τ sig) → Buf (Elt Ideal) ℓ) (ρ : Dev nD → PrngReg)

set_option backward.isDefEq.respectTransparency.types false in
/-- Every weakly fair run of the kernel ends with the result array at the last boundary's contents and the arguments as launched. -/
theorem run : θ_run defs (onTc (τ := τ) (main (F := Ideal))) ⟨m, fun _ => 0, ρ⟩ (fun r => ∀ c : Dev nD,
      r.2.mem ((c.tc : Thread nD τ).loc main_v16) = W7 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v16 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.Proof.KernelRun
-- ==== Proof.KernelValue.lean ====
module

public import proofs.«01_k».proof.Proof.KernelRun

@[expose] public section

set_option maxRecDepth 16384

noncomputable section

namespace Cert.Proof.KernelRun

open Idealize.ShloMosaic Idealize.ShloMosaic.TcCoe Cert.KernelIdeal Cert.KernelIdeal.Gen

/-! The kernel's result as one function of its three arguments. -/

/-- An image array cut into windows: position `t` of window `w`, channel by channel. -/
def windows (x : S2x96x224x224.Idx → EReal) : S2x256x96x196.Idx → EReal :=
  shapeCast S2x256x96x196 (transpose S2x16x16x96x14x14 [0, 2, 4, 1, 3, 5]
    (shapeCast S2x96x16x14x16x14 x shapeCasts_S2x96x224x224_S2x96x16x14x16x14)
    transposes_S2x96x16x14x16x14_S2x16x16x96x14x14_0_2_4_1_3_5) shapeCasts_S2x16x16x96x14x14_S2x256x96x196

/-- An array of windows put back into an image. -/
def image (x : S2x256x96x196.Idx → EReal) : S2x96x224x224.Idx → EReal :=
  shapeCast S2x96x224x224 (transpose S2x96x16x14x16x14 [0, 3, 1, 4, 2, 5]
    (shapeCast S2x16x16x96x14x14 x shapeCasts_S2x256x96x196_S2x16x16x96x14x14)
    transposes_S2x16x16x96x14x14_S2x96x16x14x16x14_0_3_1_4_2_5) shapeCasts_S2x96x16x14x16x14_S2x96x224x224

/-- A window's products laid out as one row. -/
def flat (p : S2x256x96x99.Idx → EReal) : S2x256x9504.Idx → EReal :=
  shapeCast S2x256x9504 p shapeCasts_S2x256x96x99_S2x256x9504

/-- A row of products as a table again. -/
def unflat (p : S2x256x9504.Idx → EReal) : S2x256x96x99.Idx → EReal :=
  shapeCast S2x256x96x99 p shapeCasts_S2x256x9504_S2x256x96x99

/-- The kernel's result as a function of the three arguments. -/
def kernelResult (q k v : S2x96x224x224.Idx → EReal) : S2x96x224x224.Idx → EReal :=
  image (Attend.arrayMessages (windows q)
    (unflat (Route.arrayGathered (Stats.arrayMean (windows q)) (Stats.arrayMean (windows k)) (flat (Stats.arrayProducts (windows k) (windows v)))))
    (Route.arrayMeans (Stats.arrayMean (windows k)) (Stats.arrayMean (windows v))))

/-- An array of real numbers cut into windows holds real numbers. -/
theorem windows_real (x : S2x96x224x224.Idx → EReal) (h : ∀ i, ∃ r : ℝ, x i = r) (i : S2x256x96x196.Idx) : ∃ r : ℝ, windows x i = r := by
  unfold windows transpose shapeCast
  exact h _

variable (X : Valuation τ sig (Elt Ideal))

/-- The first stretch cuts the first argument into windows. -/
theorem host0_0 : StableHlo.after hostOps0 X (Proc.devRef .tc main_v2) = windows (X (Proc.devRef .tc main_arg0)) := by
  unfold_abbrev_sides
  after_results
  rfl

/-- The first stretch cuts the second argument into windows. -/
theorem host0_1 : StableHlo.after hostOps0 X (Proc.devRef .tc main_v5) = windows (X (Proc.devRef .tc main_arg1)) := by
  unfold_abbrev_sides
  after_results
  rfl

/-- The first stretch cuts the third argument into windows. -/
theorem host0_2 : StableHlo.after hostOps0 X (Proc.devRef .tc main_v8) = windows (X (Proc.devRef .tc main_arg2)) := by
  unfold_abbrev_sides
  after_results
  rfl

/-- The second stretch lays the products out as rows. -/
theorem host1 : StableHlo.after hostOps1 X (Proc.devRef .tc main_v10) = flat (X (Proc.devRef .tc main_v9_3)) := by
  unfold_abbrev_sides
  after_results
  rfl

/-- The third stretch makes tables of the gathered rows. -/
theorem host2 : StableHlo.after hostOps2 X (Proc.devRef .tc main_v12) = unflat (X (Proc.devRef .tc main_v11_0)) := by
  unfold_abbrev_sides
  after_results
  rfl

/-- The last stretch puts the windows back into an image. -/
theorem host3 : StableHlo.after hostOps3 X (Proc.devRef .tc main_v16) = image (X (Proc.devRef .tc main_v13)) := by
  unfold_abbrev_sides
  after_results
  rfl

variable (m : (ℓ : Loc nD τ sig) → Buf (Elt Ideal) ℓ) (ρ : Dev nD → PrngReg) (c : Dev nD)
variable (q k v : S2x96x224x224.Idx → EReal)

/-- The result array at the end: `kernelResult` of the arguments, when the first two hold real numbers. -/
theorem W7_result (hq : m ((c.tc : Thread nD τ).loc main_arg0) = q) (hk : m ((c.tc : Thread nD τ).loc main_arg1) = k)
    (hv : m ((c.tc : Thread nD τ).loc main_arg2) = v) (rq : ∀ i, ∃ r : ℝ, q i = r) (rk : ∀ i, ∃ r : ℝ, k i = r) :
    W7 m ρ c (Proc.devRef .tc main_v16) = kernelResult q k v := by
  have e0 : V1 m ρ c (Pipeline.arrRef spec0 0) = windows q := (host0_0 (W0 m ρ c)).trans (congrArg windows hq)
  have e1 : V1 m ρ c (Pipeline.arrRef spec0 1) = windows k := (host0_1 (W0 m ρ c)).trans (congrArg windows hk)
  have e2 : V1 m ρ c (Pipeline.arrRef spec0 2) = windows v := (host0_2 (W0 m ρ c)).trans (congrArg windows hv)
  have a3 := (W2_arr m ρ c 3).trans (Stats.final3 (V1 m ρ) c (windows q) e0 (windows_real q rq))
  have a4 := (W2_arr m ρ c 4).trans (Stats.final4 (V1 m ρ) c (windows k) e1 (windows_real k rk))
  have a5 := (W2_arr m ρ c 5).trans (Stats.final5 (V1 m ρ) c (windows v) e2)
  have a6 := (W2_arr m ρ c 6).trans (Stats.final6 (V1 m ρ) c (windows k) (windows v) e1 e2)
  have b0 : V3 m ρ c (Pipeline.arrRef spec1 0) = Stats.arrayMean (windows q) := (W3_of m ρ c main_v9_0 (by decide)).trans a3
  have b1 : V3 m ρ c (Pipeline.arrRef spec1 1) = Stats.arrayMean (windows k) := (W3_of m ρ c main_v9_1 (by decide)).trans a4
  have b2 : V3 m ρ c (Pipeline.arrRef spec1 2) = Stats.arrayMean (windows v) := (W3_of m ρ c main_v9_2 (by decide)).trans a5
  have b3 : V3 m ρ c (Pipeline.arrRef spec1 3) = flat (Stats.arrayProducts (windows k) (windows v)) := (host1 (W2 m ρ c)).trans (congrArg flat a6)
  have c4 := (W4_arr m ρ c 4).trans (Route.final4 (V3 m ρ) c _ _ _ b0 b1 b3)
  have c5 := (W4_arr m ρ c 5).trans (Route.final5 (V3 m ρ) c _ _ b1 b2)
  have d0 : V5 m ρ c (Pipeline.arrRef spec2 0) = windows q :=
    (W5_of m ρ c main_v2 (by decide)).trans ((W4_of m ρ c main_v2 (by decide)).trans ((W3_of m ρ c main_v2 (by decide)).trans
      ((W2_of m ρ c main_v2 (by decide)).trans e0)))
  have d1 := (host2 (W4 m ρ c)).trans (congrArg unflat c4)
  have d2 := (W5_of m ρ c main_v11_1 (by decide)).trans c5
  have f3 := (W6_arr m ρ c 3).trans (Attend.final3 (V5 m ρ) c _ _ _ d0 d1 d2)
  exact (host3 (W6 m ρ c)).trans (congrArg image f3)

end Cert.Proof.KernelRun
-- ==== Proof.RefStages.lean ====
module

public import proofs.«01_k».proof.Proof.Spec
public import proofs.«01_k».proof.Proof.Gen.ReferenceIdeal.Run

@[expose] public section

set_option maxRecDepth 16384

noncomputable section

namespace Cert.Proof.Ref

open Idealize.ShloMosaic Idealize.ShloMosaic.TcCoe Cert.ReferenceIdeal Cert.ReferenceIdeal.Gen

/-! The reference's result, cut into stages. -/

/-- An image array cut into windows, one row of channels per position. -/
def tokens (x : S2x96x224x224.Idx → EReal) : S2x256x196x96.Idx → EReal :=
  shapeCast _ (transpose S2x16x16x14x14x96 [0, 2, 4, 3, 5, 1] (shapeCast _ x shapeCasts_S2x96x224x224_S2x96x16x14x16x14)
    transposes_S2x96x16x14x16x14_S2x16x16x14x14x96_0_2_4_3_5_1) shapeCasts_S2x16x16x14x14x96_S2x256x196x96

/-- The window means. -/
def means (w : FVec Ideal S2x256x196x96 .f32) : FVec Ideal S2x256x96 .f32 :=
  Host.divf (Host.reduceAdd w (constant S_ .f32 0x00000000#32) reducesTo_S2x256x196x96_S2x256x96_d2 h_S_)
    (broadcastInDim S2x256x96 ![] bcast_S_S2x256x96 (constant S_ .f32 0x43440000#32))

/-- The scores of every pair of windows. -/
def scoreArray (qm km : FVec Ideal S2x256x96 .f32) : FVec Ideal S2x256x256 .f32 :=
  Host.dotGeneral dot_S2x256x96_S2x256x96_S2x256x256_2_2_1_1_0_0 none qm km

/-- The eight windows a window attends to, best first. -/
def indices (s : FVec Ideal S2x256x256 .f32) : IVec S2x256x8 32 :=
  (Host.topK S2x256x8 2 (FloatOps.cmpfTotal .gt) s sliceFits_S2x256x256_S2x256x8).2

/-- An index counted from the end made one counted from the start. -/
def wrapped (I : IVec S2x256x8 32) : IVec S2x256x8x1 32 :=
  broadcastInDim S2x256x8x1 ![0, 1, 2] bcast_S2x256x8_S2x256x8x1_0_1_2 (select (cmpi .slt I (broadcastInDim S2x256x8 ![] bcast_S_S2x256x8 (constantI S_ 32 0#32)))
    (addi I (broadcastInDim S2x256x8 ![] bcast_S_S2x256x8 (constantI S_ 32 256#32))) I)

/-- The eight windows' positions. -/
def gathered (I : IVec S2x256x8x1 32) (w : FVec Ideal S2x256x196x96 .f32) : FVec Ideal S2x256x8x196x96 .f32 :=
  Host.gather gather_S2x256x196x96_S2x256x8x1_S2x256x8x196x96_34_1_0_0_1_3_1119696 w I

/-- The positions a window attends to: the eight windows' own, then the means of all windows. -/
def attended (g : FVec Ideal S2x256x8x196x96 .f32) (wm : FVec Ideal S2x256x96 .f32) : FVec Ideal S2x256x1824x96 .f32 :=
  concatenate S2x256x1824x96 2 [⟨S2x256x1568x96, (shapeCast _ g shapeCasts_S2x256x8x196x96_S2x256x1568x96)⟩,
    ⟨S2x256x256x96, (broadcastInDim S2x256x256x96 ![0, 1, 2, 3] bcast_S2x1x256x96_S2x256x256x96_0_1_2_3
      (broadcastInDim S2x1x256x96 ![0, 2, 3] bcast_S2x256x96_S2x1x256x96_0_2_3 wm))⟩] concatenates_S2x256x1568x96_S2x256x256x96_S2x256x1824x96_d2

/-- A window's queries, head by head. -/
def queryHeads (w : FVec Ideal S2x256x196x96 .f32) : FVec Ideal S512x196x3x32 .f32 := shapeCast _ w shapeCasts_S2x256x196x96_S512x196x3x32

/-- A window's attended rows, head by head. -/
def keyHeads (w : FVec Ideal S2x256x1824x96 .f32) : FVec Ideal S512x1824x3x32 .f32 := shapeCast _ w shapeCasts_S2x256x1824x96_S512x1824x3x32

/-- The feature map of the queries. -/
def queryFeature (x : FVec Ideal S512x196x3x32 .f32) : FVec Ideal S512x196x3x32 .f32 :=
  addf (select (cmpf .ogt x (broadcastInDim S512x196x3x32 ![] bcast_S_S512x196x3x32 (constant S_ .f32 0x00000000#32))) x (mulf (broadcastInDim S512x196x3x32 ![] bcast_S_S512x196x3x32 (constant S_ .f32 0x3F800000#32)) (Host.expm1 (select (cmpf .ogt x (broadcastInDim S512x196x3x32 ![] bcast_S_S512x196x3x32 (constant S_ .f32 0x00000000#32))) (broadcastInDim S512x196x3x32 ![] bcast_S_S512x196x3x32 (id (constant S_ .f32 0x00000000#32))) x)))) (broadcastInDim S512x196x3x32 ![] bcast_S_S512x196x3x32 (constant S_ .f32 0x3F800000#32))

/-- The feature map of the keys. -/
def keyFeature (x : FVec Ideal S512x1824x3x32 .f32) : FVec Ideal S512x1824x3x32 .f32 :=
  addf (select (cmpf .ogt x (broadcastInDim S512x1824x3x32 ![] bcast_S_S512x1824x3x32 (constant S_ .f32 0x00000000#32))) x (mulf (broadcastInDim S512x1824x3x32 ![] bcast_S_S512x1824x3x32 (constant S_ .f32 0x3F800000#32)) (Host.expm1 (select (cmpf .ogt x (broadcastInDim S512x1824x3x32 ![] bcast_S_S512x1824x3x32 (constant S_ .f32 0x00000000#32))) (broadcastInDim S512x1824x3x32 ![] bcast_S_S512x1824x3x32 (id (constant S_ .f32 0x00000000#32))) x)))) (broadcastInDim S512x1824x3x32 ![] bcast_S_S512x1824x3x32 (constant S_ .f32 0x3F800000#32))

/-- The attention of every window and head. -/
def attention (qf : FVec Ideal S512x196x3x32 .f32) (kf vh : FVec Ideal S512x1824x3x32 .f32) : FVec Ideal S512x196x3x32 .f32 :=
  mulf (mulf (transpose S512x196x3x32 [0, 3, 1, 2] (Host.dotGeneral dot_S512x3x32x32_S512x196x3x32_S512x3x32x196_2_3_3_1_01_02 none (Host.dotGeneral dot_S512x1824x3x32_S512x1824x3x32_S512x3x32x32_1_1_3_3_02_02 none kf (Host.divf vh (broadcastInDim S512x1824x3x32 ![] bcast_S_S512x1824x3x32 (constant S_ .f32 0x44E40000#32)))) qf) transposes_S512x3x32x196_S512x196x3x32_0_3_1_2) (broadcastInDim S512x196x3x32 ![0, 1, 2, 3] bcast_S512x196x3x1_S512x196x3x32_0_1_2_3 (broadcastInDim S512x196x3x1 ![0, 1, 2] bcast_S512x196x3_S512x196x3x1_0_1_2 (Host.divf (broadcastInDim S512x196x3 ![] bcast_S_S512x196x3 (constant S_ .f32 0x3F800000#32)) (addf (transpose S512x196x3 [0, 2, 1] (Host.dotGeneral dot_S512x3x32_S512x196x3x32_S512x3x196_2_3_n_1_01_02 none (Host.reduceAdd kf (constant S_ .f32 0x00000000#32) reducesTo_S512x1824x3x32_S512x3x32_d1 h_S_) qf) transposes_S512x3x196_S512x196x3_0_2_1) (broadcastInDim S512x196x3 ![] bcast_S_S512x196x3 (constant S_ .f32 0x358637BD#32))))))) (broadcastInDim S512x196x3x32 ![] bcast_S_S512x196x3x32 (constant S_ .f32 0x44E40000#32))

/-- The windows put back into an image. -/
def toImage (x : FVec Ideal S512x196x3x32 .f32) : FVec Ideal S2x96x224x224 .f32 :=
  shapeCast _ (transpose S2x3x32x16x14x16x14 [0, 5, 6, 1, 3, 2, 4] (shapeCast _ x shapeCasts_S512x196x3x32_S2x16x16x14x14x3x32) transposes_S2x16x16x14x14x3x32_S2x3x32x16x14x16x14_0_5_6_1_3_2_4) shapeCasts_S2x3x32x16x14x16x14_S2x96x224x224

/-- The reference's result as a function of its three arguments. -/
def result (q k v : S2x96x224x224.Idx → EReal) : S2x96x224x224.Idx → EReal :=
  let I := wrapped (indices (scoreArray (means (tokens q)) (means (tokens k))))
  toImage (attention (queryFeature (queryHeads (tokens q))) (keyFeature (keyHeads (attended (gathered I (tokens k)) (means (tokens k)))))
    (keyHeads (attended (gathered I (tokens v)) (means (tokens v)))))

/-- The generated run's result term is `result` of the arguments. -/
theorem res_eq (m : (ℓ : Loc nD τ sig) → Buf (Elt Ideal) ℓ) (c : Dev nD) (q k v : S2x96x224x224.Idx → EReal)
    (hq : m ((c.tc : Thread nD τ).loc main_arg0) = q) (hk : m ((c.tc : Thread nD τ).loc main_arg1) = k) (hv : m ((c.tc : Thread nD τ).loc main_arg2) = v) :
    Cert.ReferenceIdeal.Value.res_main_v69 m c = result q k v := by
  subst hq hk hv
  rfl

end Cert.Proof.Ref
-- ==== Proof.RefRoute.lean ====
module

public import proofs.«01_k».proof.Proof.RefStages
public import proofs.«01_k».proof.Proof.Pick
public import Idealize.ShloMosaic.Lib.Pointwise

@[expose] public section

set_option maxRecDepth 16384

noncomputable section

namespace Cert.Proof.Ref

open Idealize.ShloMosaic Idealize.ShloMosaic.TcCoe Cert.ReferenceIdeal Cert.ReferenceIdeal.Gen

/-! The reference's routing: which windows are gathered. -/

/-- Replacing the last coordinate of a rank-three index. -/
theorem along_last (b : Fin 2) (w j k : Fin 256) : Shape.Idx.along (s := S2x256x256) (ix3 b w j) (2 : Fin 3) k = ix3 b w k := by
  unfold Shape.Idx.along
  funext a
  fin_cases a <;> rfl

/-- Sorting values together with their positions: the positions come in the sorting order. -/
theorem sort2_iota {s : Shape} (a : Fin s.rank) {α : Type} (cmp : α → α → BitVec 1) (x : s.Idx → α) (j : s.Idx) :
    (Host.sort2 s a.val (fun l r : α × BitVec 32 => cmp l.1 r.1) x (fun i => BitVec.ofNat 32 (i a).val)).2 j
      = BitVec.ofNat 32 (sortedFrom (fun k k' => cmp (x (j.along a k)) (x (j.along a k')) == 1#1) (j a)).val := by
  unfold Host.sort2
  rw [dif_pos a.isLt]
  show BitVec.ofNat 32 (Shape.Idx.along j a _ a).val = _
  unfold Shape.Idx.along
  rw [Function.update_self]

/-- The `r`-th index of a window names the window that round `r` takes. -/
theorem indices_apply (s : S2x256x256.Idx → EReal) (b : Fin 2) (w : Fin 256) (r : Fin 8) (hs : ∀ j : Fin 256, ⊥ < s (ix3 b w j)) :
    indices s (ix3 b w r) = BitVec.ofNat 32 (pick r.val fun j => s (ix3 b w j)).val := by
  unfold indices Host.topK
  pointwise
  refine (sort2_iota (s := S2x256x256) (2 : Fin 3) (FloatOps.cmpfTotal (F := Ideal) (φ := .f32) CmpDirection.gt) s _).trans ?_
  refine congrArg (fun n : Fin 256 => BitVec.ofNat 32 n.val) ?_
  refine sortedFrom_eq_pick (fun j => s (ix3 b w j)) hs _ (fun i j => ?_) r.val (by omega)
  rw [along_last, along_last]
  show (Ideal.cmp .ogt (s (ix3 b w i)) (s (ix3 b w j)) == 1#1) = _
  unfold Ideal.cmp
  by_cases hh : s (ix3 b w j) < s (ix3 b w i) <;> simp [hh]

/-- A word below 256 isn't negative: the choice keeps it. -/
theorem word_kept : ∀ n : Fin 256, Scalar.select (IntOp.cmpi CmpIPredicate.slt (BitVec.ofNat 32 n.val) 0#32)
    (IntOp.addi (BitVec.ofNat 32 n.val) 256#32) (BitVec.ofNat 32 n.val) = BitVec.ofNat 32 n.val := by decide +kernel

/-- A word below 256, read signed and clamped to the last window, is itself. -/
theorem word_clamped : ∀ n : Fin 256, min (BitVec.ofNat 32 n.val).toInt.toNat 255 + 0 + 0 = n.val := by decide +kernel

/-- An index counted from the start is kept. -/
theorem wrapped_apply (I : IVec S2x256x8 32) (b : Fin 2) (w : Fin 256) (r : Fin 8) (n : Fin 256) (h : I (ix3 b w r) = BitVec.ofNat 32 n.val) :
    wrapped I (ix4 b w r (0 : Fin 1)) = BitVec.ofNat 32 n.val := by
  unfold wrapped
  pointwise
  show Scalar.select (IntOp.cmpi CmpIPredicate.slt (I (ix3 b w r)) 0#32) (IntOp.addi (I (ix3 b w r)) 256#32) (I (ix3 b w r)) = _
  rw [h]
  exact word_kept n

/-- Gathering at the index of window `n` reads window `n`. -/
theorem gathered_apply (I : IVec S2x256x8x1 32) (x : S2x256x196x96.Idx → EReal) (b : Fin 2) (w : Fin 256) (r : Fin 8) (t : Fin 196) (c : Fin 96)
    (n : Fin 256) (h : I (ix4 b w r (0 : Fin 1)) = BitVec.ofNat 32 n.val) :
    gathered I x (ix5 b w r t c) = x (ix4 b n t c) := by
  unfold gathered Host.gather
  refine congrArg x ?_
  funext a
  refine Fin.ext ?_
  fin_cases a
  · exact Nat.zero_add b.val
  · show GatherDims.start _ _ I 1 + 0 + 0 = n.val
    unfold GatherDims.start
    rw [dif_pos (by decide)]
    have e : (gather_S2x256x196x96_S2x256x8x1_S2x256x8x196x96_34_1_0_0_1_3_1119696).siIdx (ix5 b w r t c) ⟨0, by decide⟩ = ix4 b w r (0 : Fin 1) := by
      funext a
      fin_cases a <;> rfl
    show min (I (GatherDims.siIdx _ _ ⟨0, _⟩)).toInt.toNat 255 + 0 + 0 = n.val
    rw [e, h]
    exact word_clamped n
  · show 0 + 0 + t.val = t.val
    omega
  · show 0 + 0 + c.val = c.val
    omega

end Cert.Proof.Ref
-- ==== Proof.Algebra.lean ====
module

public import proofs.«01_k».proof.Proof.Spec

@[expose] public section

noncomputable section

namespace Cert.Proof

open Idealize.ShloMosaic

/-! The sums of the attention: over the attended rows, over the channels of a head, and the scaling by the number of rows. -/

/-- Channel `x` of head `n`. -/
def row (n : Fin 3) (x : Fin 32) : Fin 96 := ⟨n.val * 32 + x.val, by omega⟩

/-- Eight windows' rows, then one row per window. -/
def join (G : ℕ → Fin 196 → EReal) (M : Fin 256 → EReal) (s : Fin 1824) : EReal :=
  if h : s.val < 1568 then G (s.val / 196) ⟨s.val % 196, Nat.mod_lt _ (by decide)⟩ else M ⟨s.val - 1568, by omega⟩

/-- The sum over all attended rows, window by window. -/
theorem sum_join (G : ℕ → Fin 196 → EReal) (M : Fin 256 → EReal) :
    ∑ s, join G M s = (∑ r ∈ Finset.range 8, ∑ t, G r t) + ∑ j, M j := by
  refine (Fin.sum_univ_add (a := 1568) (b := 256) (join G M)).trans (congrArg₂ (· + ·) ?_ ?_)
  · rw [Finset.sum_range, ← Fintype.sum_prod_type']
    refine (Fintype.sum_equiv (finProdFinEquiv (m := 8) (n := 196)) (fun p : Fin 8 × Fin 196 => G p.1.val p.2) (fun s => join G M (Fin.castAdd 256 s)) fun p => ?_).symm
    have hv : (Fin.castAdd 256 (finProdFinEquiv (m := 8) (n := 196) p)).val = p.2.val + 196 * p.1.val := rfl
    unfold join
    rw [dif_pos (show (Fin.castAdd 256 (finProdFinEquiv (m := 8) (n := 196) p)).val < 1568 by rw [hv]; omega)]
    refine congrArg₂ G (by rw [hv]; omega) (Fin.ext ?_)
    show p.2.val = (Fin.castAdd 256 (finProdFinEquiv (m := 8) (n := 196) p)).val % 196
    rw [hv]; omega
  · refine Finset.sum_congr rfl fun j _ => ?_
    unfold join
    rw [dif_neg (show ¬ (Fin.natAdd 1568 j).val < 1568 from not_lt.2 (Nat.le_add_right _ _))]
    exact congrArg M (Fin.ext (Nat.add_sub_cancel_left 1568 j.val))

/-- Products of attended rows are taken row by row. -/
theorem join_mul (G G' : ℕ → Fin 196 → EReal) (M M' : Fin 256 → EReal) (s : Fin 1824) :
    join G M s * join G' M' s = join (fun r t => G r t * G' r t) (fun j => M j * M' j) s := by
  unfold join
  split <;> rfl

/-- A sum over the channels that vanishes off head `n` is the sum over that head's channels. -/
theorem sum_head (f : Fin 96 → EReal) (n : Fin 3) (h : ∀ d : Fin 96, d.val / 32 ≠ n.val → f d = 0) : ∑ d, f d = ∑ x, f (row n x) := by
  have e : ∑ d, f d = ∑ m : Fin 3, ∑ x : Fin 32, f (row m x) := by
    rw [← Fintype.sum_prod_type']
    refine (Fintype.sum_equiv (finProdFinEquiv (m := 3) (n := 32)) (fun p : Fin 3 × Fin 32 => f (row p.1 p.2)) f fun p => ?_).symm
    refine congrArg f (Fin.ext ?_)
    show p.1.val * 32 + p.2.val = p.2.val + 32 * p.1.val
    omega
  rw [e]
  refine Finset.sum_eq_single n (fun m _ hm => ?_) fun hn => absurd (Finset.mem_univ n) hn
  refine Finset.sum_eq_zero fun x _ => h _ ?_
  have : m.val ≠ n.val := fun hh => hm (Fin.ext hh)
  show (m.val * 32 + x.val) / 32 ≠ n.val
  omega

theorem same_self (a : ℕ) : same a a = 1 := if_pos rfl

theorem same_ne {a b : ℕ} (h : a ≠ b) : same a b = 0 := if_neg h

section weigh

variable (A B : ℕ → Fin 96 → Fin 196 → EReal) (Am Bm : Fin 96 → Fin 256 → EReal) (qf : Fin 96 → EReal)

/-- The products a window attends with: eight windows' and the means'. -/
def products (d : Fin 96) (j : Fin 99) : EReal := (∑ r ∈ Finset.range 8, blockDiag (A r) (B r) d j) + blockDiag Am Bm d j

/-- The weighted value products of channel `c`: over its own head's channels and all attended rows. -/
theorem weigh_value (n : Fin 3) (x : Fin 32) :
    weigh (products A B Am Bm) qf ⟨(row n x).val, by omega⟩
      = ∑ y, (∑ s, join (fun r => A r (row n y)) (Am (row n y)) s * join (fun r => B r (row n x)) (Bm (row n x)) s) * qf (row n y) := by
  have hx : (row n x).val / 32 = n.val := by show (n.val * 32 + x.val) / 32 = n.val; omega
  have hlt : (row n x).val < 96 := (row n x).isLt
  unfold weigh
  refine (sum_head _ n fun d hd => ?_).trans (Finset.sum_congr rfl fun y _ => ?_)
  · unfold products blockDiag
    simp only [dif_pos hlt, hx, same_ne hd, mul_zero, Finset.sum_const_zero, add_zero, zero_mul]
  · have hy : (row n y).val / 32 = n.val := by show (n.val * 32 + y.val) / 32 = n.val; omega
    refine congrArg (· * qf (row n y)) ?_
    simp only [join_mul]
    rw [sum_join]
    unfold products blockDiag
    simp only [dif_pos hlt, hx, hy, same_self, mul_one]

/-- The weighted key sums of head `n`. -/
theorem weigh_key (n : Fin 3) :
    weigh (products A B Am Bm) qf ⟨96 + n.val, by omega⟩
      = ∑ y, (∑ s, join (fun r => A r (row n y)) (Am (row n y)) s) * qf (row n y) := by
  have hn : ¬ 96 + n.val < 96 := by omega
  have hs : 96 + n.val - 96 = n.val := by omega
  unfold weigh
  refine (sum_head _ n fun d hd => ?_).trans (Finset.sum_congr rfl fun y _ => ?_)
  · unfold products blockDiag
    simp only [dif_neg hn, if_neg hn, hs, same_ne hd, mul_zero, Finset.sum_const_zero, add_zero, zero_mul]
  · have hy : (row n y).val / 32 = n.val := by show (n.val * 32 + y.val) / 32 = n.val; omega
    refine congrArg (· * qf (row n y)) ?_
    rw [sum_join]
    unfold products blockDiag
    simp only [dif_neg hn, if_neg hn, hs, hy, same_self, mul_one]

/-- A channel's message is its weighted values over its head's weighted keys. -/
theorem message_eq (n : Fin 3) (x : Fin 32) :
    message (products A B Am Bm) qf (row n x)
      = Ideal.div (∑ y, (∑ s, join (fun r => A r (row n y)) (Am (row n y)) s * join (fun r => B r (row n x)) (Bm (row n x)) s) * qf (row n y))
          ((∑ y, (∑ s, join (fun r => A r (row n y)) (Am (row n y)) s) * qf (row n y)) + eps) := by
  have hx : (row n x).val / 32 = n.val := by show (n.val * 32 + x.val) / 32 = n.val; omega
  unfold message
  refine congrArg₂ Ideal.div (weigh_value A B Am Bm qf n x) (congrArg (· + eps) ?_)
  refine (Finset.sum_eq_single n (fun m _ hm => ?_) fun hn => absurd (Finset.mem_univ n) hn).trans ?_
  · rw [hx, same_ne fun hh => hm (Fin.ext hh.symm), zero_mul]
  · rw [hx, same_self, one_mul]
    exact weigh_key A B Am Bm qf n

end weigh

/-- A nonnegative real factor goes through a finite sum of extended reals. -/
theorem sum_mul_real {ι : Type*} (S : Finset ι) (f : ι → EReal) (κ : ℝ) (h : 0 ≤ κ) : ∑ i ∈ S, f i * (κ : EReal) = (∑ i ∈ S, f i) * (κ : EReal) := by
  classical
  induction S using Finset.induction_on with
  | empty => simp
  | insert a S ha ih =>
    rw [Finset.sum_insert ha, Finset.sum_insert ha, ih]
    exact (EReal.right_distrib_of_nonneg_of_ne_top (EReal.coe_nonneg.2 h) (EReal.coe_ne_top κ) _ _).symm

/-- Scaling the values down by the number of rows, dividing, and scaling up again is dividing. -/
theorem scaled (a : Fin 1824 → Fin 32 → EReal) (z : Fin 1824 → EReal) (p : Fin 32 → EReal) (D : ℝ) (hD : D ≠ 0) :
    (∑ x, (∑ s, a s x * Ideal.div (z s) ((1824 : ℝ) : EReal)) * p x) * Ideal.div 1 (D : EReal) * ((1824 : ℝ) : EReal)
      = Ideal.div (∑ x, (∑ s, a s x * z s) * p x) (D : EReal) := by
  have hK : (1824 : ℝ) ≠ 0 := by norm_num
  have e : ∀ x, (∑ s, a s x * Ideal.div (z s) ((1824 : ℝ) : EReal)) * p x = (∑ s, a s x * z s) * p x * ((1 / 1824 : ℝ) : EReal) := fun x => by
    have : ∀ s, a s x * Ideal.div (z s) ((1824 : ℝ) : EReal) = a s x * z s * ((1 / 1824 : ℝ) : EReal) := fun s => by
      rw [Ideal.div_coe hK, mul_assoc]
    simp only [this]
    rw [sum_mul_real _ _ _ (by norm_num), mul_right_comm]
  simp only [e]
  rw [sum_mul_real _ _ _ (by norm_num), Ideal.div_coe hD, Ideal.div_coe hD, one_mul, mul_assoc, mul_assoc,
    mul_comm ((1 / D : ℝ) : EReal), ← mul_assoc ((1 / 1824 : ℝ) : EReal), ← EReal.coe_mul]
  norm_num

/-- A finite sum of real numbers, read in the extended reals. -/
theorem sum_real {ι : Type*} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, ← EReal.coe_add]

/-- The feature map of a real number is a positive real. -/
theorem elu1_real {x : EReal} (hx : ∃ r : ℝ, x = r) : ∃ y : ℝ, 0 < y ∧ elu1 x = y := by
  obtain ⟨r, rfl⟩ := hx
  unfold elu1
  by_cases h : (0 : EReal) < r
  · refine ⟨r + 1, by have := EReal.coe_pos.1 h; linarith, ?_⟩
    rw [if_pos h]; rfl
  · exact ⟨Real.exp r, Real.exp_pos r, by rw [if_neg h]; rfl⟩

/-- The literal 1824. -/
theorem rows_literal : Ideal.ofBits FTy.f32 0x44E40000#32 = ((1824 : ℝ) : EReal) := by
  simp [Ideal.ofBits, Ideal.ieee]
  rw [← EReal.coe_mul]
  norm_num

/-- The literal 196. -/
theorem positions_literal : Ideal.ofBits FTy.f32 0x43440000#32 = ((196 : ℝ) : EReal) := by
  simp [Ideal.ofBits, Ideal.ieee]
  rw [← EReal.coe_mul]
  norm_num

/-- The literal added to the denominators is a positive real. -/
theorem eps_real : ∃ y : ℝ, 0 < y ∧ eps = y := by
  unfold eps
  simp [Ideal.ofBits, Ideal.ieee]
  rw [← EReal.coe_mul]
  exact ⟨_, by norm_num, rfl⟩

/-- A sum of positive reals, weighed by positive reals, plus the literal, is a positive real. -/
theorem denominator_real (a : Fin 1824 → Fin 32 → EReal) (p : Fin 32 → EReal) (ha : ∀ s x, ∃ y : ℝ, 0 < y ∧ a s x = y) (hp : ∀ x, ∃ y : ℝ, 0 < y ∧ p x = y) :
    ∃ D : ℝ, D ≠ 0 ∧ (∑ x, (∑ s, a s x) * p x) + eps = D := by
  choose a' ha1 ha2 using ha
  choose p' hp1 hp2 using hp
  obtain ⟨e, he1, he2⟩ := eps_real
  refine ⟨(∑ x, (∑ s, a' s x) * p' x) + e, ?_, ?_⟩
  · have : 0 ≤ ∑ x, (∑ s, a' s x) * p' x :=
      Finset.sum_nonneg fun x _ => mul_nonneg (Finset.sum_nonneg fun s _ => (ha1 s x).le) (hp1 x).le
    linarith
  · simp only [ha2, hp2, he2]
    simp only [sum_real, ← EReal.coe_mul, ← EReal.coe_add]

end Cert.Proof
-- ==== Proof.Equal.lean ====
module

public import proofs.«01_k».proof.Proof.KernelValue
public import proofs.«01_k».proof.Proof.RefRoute
public import proofs.«01_k».proof.Proof.Algebra

@[expose] public section

set_option maxRecDepth 16384

noncomputable section

namespace Cert.Proof.Ref

open Idealize.ShloMosaic Idealize.ShloMosaic.TcCoe Cert.ReferenceIdeal Cert.ReferenceIdeal.Gen

/-! The reference's result, element by element, and the kernel's beside it. -/

/-- The reference's windows hold what the kernel's do, with the last two coordinates exchanged. -/
theorem tokens_apply (x : S2x96x224x224.Idx → EReal) (b : Fin 2) (w : Fin 256) (t : Fin 196) (c : Fin 96) :
    tokens x (ix4 b w t c) = KernelRun.windows x (ix4 b w c t) := by
  unfold tokens KernelRun.windows
  pointwise

/-- The window means of the two programs agree. -/
theorem means_apply (x : S2x96x224x224.Idx → EReal) (b : Fin 2) (w : Fin 256) (c : Fin 96) :
    means (tokens x) (ix3 b w c) = Stats.arrayMean (KernelRun.windows x) (ix3 b w c) := by
  unfold means
  pointwise
  rw [positions_literal, Ideal.div_coe (by norm_num)]
  refine congrArg (· * ((1 / 196 : ℝ) : EReal)) (Finset.sum_congr rfl fun t _ => ?_)
  exact tokens_apply x b w t c

/-- The scores of the two programs agree. -/
theorem scores_apply (q k : S2x96x224x224.Idx → EReal) (b : Fin 2) (w j : Fin 256) :
    scoreArray (means (tokens q)) (means (tokens k)) (ix3 b w j)
      = Route.scores (Stats.arrayMean (KernelRun.windows q)) (Stats.arrayMean (KernelRun.windows k)) b w j := by
  unfold scoreArray
  pointwise [dot_S2x256x96_S2x256x96_S2x256x256_2_2_1_1_0_0]
  exact Finset.sum_congr rfl fun c _ => congrArg₂ (· * ·) (means_apply q b w c) (means_apply k b j c)

/-- The means of real windows are real. -/
theorem mean_real (x : S2x96x224x224.Idx → EReal) (h : ∀ i, ∃ r : ℝ, x i = r) (i : KernelIdeal.S2x256x96.Idx) :
    ∃ r : ℝ, Stats.arrayMean (KernelRun.windows x) i = r := by
  choose y hy using KernelRun.windows_real x h
  unfold Stats.arrayMean
  simp only [hy]
  rw [sum_real, ← EReal.coe_mul]
  exact ⟨_, rfl⟩

/-- The scores of real windows are above `-∞`. -/
theorem score_bot (q k : S2x96x224x224.Idx → EReal) (rq : ∀ i, ∃ r : ℝ, q i = r) (rk : ∀ i, ∃ r : ℝ, k i = r) (b : Fin 2) (w j : Fin 256) :
    ⊥ < Route.scores (Stats.arrayMean (KernelRun.windows q)) (Stats.arrayMean (KernelRun.windows k)) b w j := by
  choose y hy using mean_real q rq
  choose z hz using mean_real k rk
  unfold Route.scores
  simp only [hy, hz, ← EReal.coe_mul]
  rw [sum_real]
  exact EReal.bot_lt_coe _

/-- A window's queries, read head by head. -/
theorem queryHeads_apply (W : S2x256x196x96.Idx → EReal) (B : Fin 512) (b : Fin 2) (w : Fin 256) (hB : B.val = b.val * 256 + w.val)
    (t : Fin 196) (n : Fin 3) (y : Fin 32) : queryHeads W (ix4 B t n y) = W (ix4 b w t (row n y)) := by
  unfold queryHeads
  pointwise
  refine congrArg W ?_
  have e0 : B.val / 256 = b.val := by omega
  have e1 : B.val % 256 = w.val := by omega
  funext a
  fin_cases a
  · exact Fin.ext e0
  · exact Fin.ext e1
  · rfl
  · rfl

/-- A window's attended rows, read head by head. -/
theorem keyHeads_apply (W : S2x256x1824x96.Idx → EReal) (B : Fin 512) (b : Fin 2) (w : Fin 256) (hB : B.val = b.val * 256 + w.val)
    (s : Fin 1824) (n : Fin 3) (y : Fin 32) : keyHeads W (ix4 B s n y) = W (ix4 b w s (row n y)) := by
  unfold keyHeads
  pointwise
  refine congrArg W ?_
  have e0 : B.val / 256 = b.val := by omega
  have e1 : B.val % 256 = w.val := by omega
  funext a
  fin_cases a
  · exact Fin.ext e0
  · exact Fin.ext e1
  · rfl
  · rfl

/-- The reference's spelling of the feature map. -/
theorem feature_eq (x z : EReal) (hz : z = 0) : (if 0 < x then x else Ideal.exp (if 0 < x then z else x) - 1) + 1 = elu1 x := by
  unfold elu1
  by_cases h : 0 < x
  · rw [if_pos h, if_pos h]
  · rw [if_neg h, if_neg h, if_neg h]
    induction x with
    | bot => show (0 : EReal) - 1 + 1 = 0
             exact congrArg (fun r : ℝ => (r : EReal)) (by norm_num : (0 - 1 + 1 : ℝ) = 0)
    | top => exact absurd EReal.zero_lt_top h
    | coe r => show ((Real.exp r : ℝ) : EReal) - 1 + 1 = ((Real.exp r : ℝ) : EReal)
               exact_mod_cast (congrArg (fun r : ℝ => (r : EReal)) (sub_add_cancel (Real.exp r) 1))

/-- The queries' feature map, element by element. -/
theorem queryFeature_apply (x : S512x196x3x32.Idx → EReal) (i : S512x196x3x32.Idx) : queryFeature x i = elu1 (x i) := by
  unfold queryFeature
  pointwise
  exact feature_eq _ _ Ideal.ofBits_zero_f32

/-- The keys' feature map, element by element. -/
theorem keyFeature_apply (x : S512x1824x3x32.Idx → EReal) (i : S512x1824x3x32.Idx) : keyFeature x i = elu1 (x i) := by
  unfold keyFeature
  pointwise
  exact feature_eq _ _ Ideal.ofBits_zero_f32

section window

variable (q k : S2x96x224x224.Idx → EReal) (b : Fin 2) (w : Fin 256)

/-- The window that round `r` takes for window `w`. -/
def picked (r : ℕ) : Fin 256 :=
  pick r (Route.scores (Stats.arrayMean (KernelRun.windows q)) (Stats.arrayMean (KernelRun.windows k)) b w)

/-- The rows window `w` attends to: the picked windows' own and the means of all. -/
theorem attended_apply (rq : ∀ i, ∃ r : ℝ, q i = r) (rk : ∀ i, ∃ r : ℝ, k i = r) (x : S2x96x224x224.Idx → EReal) (s : Fin 1824) (c : Fin 96) :
    attended (gathered (wrapped (indices (scoreArray (means (tokens q)) (means (tokens k))))) (tokens x)) (means (tokens x)) (ix4 b w s c)
      = join (fun r t => KernelRun.windows x (ix4 b (picked q k b w r) c t)) (fun j => Stats.arrayMean (KernelRun.windows x) (ix3 b j c)) s := by
  unfold attended join
  pointwise
  by_cases h : s.val < 1568
  · rw [dif_pos h, dif_pos h]
    have hI := indices_apply (scoreArray (means (tokens q)) (means (tokens k))) b w ⟨s.val / 196, by omega⟩
      (fun j => by rw [scores_apply]; exact score_bot q k rq rk b w j)
    simp only [scores_apply] at hI
    refine (gathered_apply _ (tokens x) b w ⟨s.val / 196, by omega⟩ ⟨s.val % 196, Nat.mod_lt _ (by decide)⟩ c _
      (wrapped_apply _ b w ⟨s.val / 196, by omega⟩ _ hI)).trans ?_
    exact tokens_apply x b _ _ c
  · rw [dif_neg h, dif_neg h]
    exact means_apply x b _ c

/-- The feature map goes through the rows. -/
theorem elu1_join (G : ℕ → Fin 196 → EReal) (M : Fin 256 → EReal) (s : Fin 1824) :
    elu1 (join G M s) = join (fun r t => elu1 (G r t)) (fun j => elu1 (M j)) s := by
  unfold join
  split <;> rfl

end window

/-- The kernel's result at channel `x` of head `n` is the window's message. -/
theorem kernel_apply (q k v : S2x96x224x224.Idx → EReal) (b : Fin 2) (w : Fin 256) (t : Fin 196) (c : Fin 96) :
    Attend.arrayMessages (KernelRun.windows q)
      (KernelRun.unflat (Route.arrayGathered (Stats.arrayMean (KernelRun.windows q)) (Stats.arrayMean (KernelRun.windows k))
        (KernelRun.flat (Stats.arrayProducts (KernelRun.windows k) (KernelRun.windows v)))))
      (Route.arrayMeans (Stats.arrayMean (KernelRun.windows k)) (Stats.arrayMean (KernelRun.windows v))) (ix4 b w c t)
    = message (products (fun r d t => elu1 (KernelRun.windows k (ix4 b (picked q k b w r) d t))) (fun r d t => KernelRun.windows v (ix4 b (picked q k b w r) d t))
        (fun d j => elu1 (Stats.arrayMean (KernelRun.windows k) (ix3 b j d))) (fun d j => Stats.arrayMean (KernelRun.windows v) (ix3 b j d)))
        (fun d => elu1 (KernelRun.windows q (ix4 b w d t))) c := by
  unfold Attend.arrayMessages
  refine congrArg (fun g => message g (fun d => elu1 (KernelRun.windows q (ix4 b w d t))) c) ?_
  funext d j
  refine congrArg₂ (· + ·) ?_ rfl
  unfold KernelRun.unflat Route.arrayGathered KernelRun.flat
  pointwise
  refine Finset.sum_congr rfl fun r _ => ?_
  have e0 : (d.val * 99 + j.val) / 99 = d.val := by omega
  have e1 : (d.val * 99 + j.val) % 99 = j.val := by omega
  refine congrArg₂ (blockDiag _ _) (Fin.ext e0) (Fin.ext e1)

/-- Where the first two arguments hold real numbers, the two programs' results agree. -/
theorem result_eq (q k v : S2x96x224x224.Idx → EReal) (rq : ∀ i, ∃ r : ℝ, q i = r) (rk : ∀ i, ∃ r : ℝ, k i = r) :
    KernelRun.kernelResult q k v = result q k v := by
  funext i
  obtain ⟨n, x, hc⟩ : ∃ (n : Fin 3) (x : Fin 32), (i 1 : Fin 96) = row n x :=
    ⟨⟨(i 1).val / 32, by have : (i 1).val < 96 := (i 1).isLt; omega⟩, ⟨(i 1).val % 32, Nat.mod_lt _ (by decide)⟩, Fin.ext (by
      show (i 1).val = (i 1).val / 32 * 32 + (i 1).val % 32
      omega)⟩
  have h2 : (i 2).val < 224 := (i 2).isLt
  have h3 : (i 3).val < 224 := (i 3).isLt
  obtain ⟨b, hb⟩ : ∃ b : Fin 2, (i 0 : Fin 2) = b := ⟨i 0, rfl⟩
  have hbv : (i 0).val = b.val := congrArg Fin.val hb
  obtain ⟨w, hw⟩ : ∃ w : Fin 256, w.val = (i 2).val / 14 * 16 + (i 3).val / 14 := ⟨⟨(i 2).val / 14 * 16 + (i 3).val / 14, by omega⟩, rfl⟩
  obtain ⟨t, ht⟩ : ∃ t : Fin 196, t.val = (i 2).val % 14 * 14 + (i 3).val % 14 := ⟨⟨(i 2).val % 14 * 14 + (i 3).val % 14, by omega⟩, rfl⟩
  obtain ⟨B, hB⟩ : ∃ B : Fin 512, B.val = b.val * 256 + w.val := ⟨⟨b.val * 256 + w.val, by omega⟩, rfl⟩
  have left : ∀ M : KernelIdeal.S2x256x96x196.Idx → EReal, KernelRun.image M i = M (ix4 b w (row n x) t) := fun M => by
    unfold KernelRun.image
    pointwise
    refine congrArg M ?_
    funext a
    fin_cases a
    · exact hb
    · exact Fin.ext hw.symm
    · exact hc
    · exact Fin.ext ht.symm
  refine ((left _).trans (kernel_apply q k v b w t (row n x))).trans ?_
  rw [message_eq]
  unfold result
  have right : ∀ M : S512x196x3x32.Idx → EReal, toImage M i = M (ix4 B t n x) := fun M => by
    unfold toImage
    pointwise
    refine congrArg M ?_
    have hc' : (i 1).val = n.val * 32 + x.val := congrArg Fin.val hc
    have a0 : (i 0).val * 256 + (i 2).val / 14 * 16 + (i 3).val / 14 = B.val := by omega
    have a2 : (i 1).val / 32 = n.val := by omega
    have a3 : (i 1).val % 32 = x.val := by omega
    funext a
    fin_cases a
    · exact Fin.ext a0
    · exact Fin.ext ht.symm
    · exact Fin.ext a2
    · exact Fin.ext a3
  rw [right]
  unfold attention
  pointwise [dot_S512x3x32x32_S512x196x3x32_S512x3x32x196_2_3_3_1_01_02, dot_S512x1824x3x32_S512x1824x3x32_S512x3x32x32_1_1_3_3_02_02,
    dot_S512x3x32_S512x196x3x32_S512x3x196_2_3_n_1_01_02]
  have hk : ∀ W s y, keyHeads W (ix4 B s n y) = W (ix4 b w s (row n y)) := fun W s y => keyHeads_apply W B b w hB s n y
  have hq : ∀ W y, queryHeads W (ix4 B t n y) = W (ix4 b w t (row n y)) := fun W y => queryHeads_apply W B b w hB t n y
  simp only [keyFeature_apply, queryFeature_apply, hk, hq, attended_apply q k b w rq rk, elu1_join, tokens_apply, rows_literal]
  obtain ⟨D, hD, eD⟩ := denominator_real
    (fun s y => join (fun r t => elu1 (KernelRun.windows k (ix4 b (picked q k b w r) (row n y) t))) (fun j => elu1 (Stats.arrayMean (KernelRun.windows k) (ix3 b j (row n y)))) s)
    (fun y => elu1 (KernelRun.windows q (ix4 b w (row n y) t)))
    (fun s y => by
      unfold join
      split
      · exact elu1_real (KernelRun.windows_real k rk _)
      · exact elu1_real (mean_real k rk _))
    (fun y => elu1_real (KernelRun.windows_real q rq _))
  have eD' := eD
  unfold eps at eD'
  rw [eD, eD']
  exact (scaled _ _ _ D hD).symm

end Cert.Proof.Ref
-- ==== Proof.Value.lean ====
module

public import proofs.«01_k».proof.Proof.Frames
public import proofs.«01_k».proof.Proof.KernelRun
public import proofs.«01_k».proof.Proof.KernelValue
public import proofs.«01_k».proof.Proof.Equal
public import Idealize.ShloMosaic.Lib.ReduceAll

@[expose] public section

set_option maxRecDepth 16384

noncomputable section

namespace Cert.Proof

open Idealize.ShloMosaic Idealize.ShloMosaic.TcCoe Idealize.SL.Sem

/-! The precondition read, and the value claim. -/

/-- The side conditions of the precondition's operations hold. -/
theorem facts_finite_qk : Cert.Pre_finite_qk.Facts := ⟨by decide, by decide, by decide⟩

/-- An extended real whose absolute value compares below infinity is a real number. -/
theorem real_of_below {x : EReal} (h : Ideal.cmp .olt (max x (-x)) ⊤ = 1#1) : ∃ r : ℝ, x = r := by
  have hlt : max x (-x) < ⊤ := by
    by_contra hn
    simp [Ideal.cmp, hn] at h
  induction x using EReal.rec with
  | bot => simp at hlt
  | coe r => exact ⟨r, rfl⟩
  | top => simp at hlt

/-- The bound the precondition compares with is infinity. -/
theorem bound_top : Ideal.ofBits .f32 0x7F800000#32 = ⊤ := by simp [Ideal.ofBits, Ideal.ieee]

/-- The precondition, at arrays `q`, `k`, `v`, says that every element of `q` and of `k` is a real number. -/
theorem finite_real [Cert.Pre_finite_qk.Facts] (q k v : Cert.Pre_finite_qk.S2x96x224x224.Idx → EReal)
    (h : Cert.Pre_finite_qk.fn (F := Ideal) q k v = fun _ => 1#1) :
    (∀ i, ∃ r : ℝ, q i = r) ∧ (∀ i, ∃ r : ℝ, k i = r) := by
  have h0 := congrFun h (fun a => a.elim0)
  obtain ⟨hq, hk⟩ := IntOp.andi_eq_one.1 h0
  refine ⟨fun i => real_of_below ?_, fun i => real_of_below ?_⟩
  · rw [← bound_top]
    exact Host.reduce_andi_all _ _ _ _ _ hq i
  · rw [← bound_top]
    exact Host.reduce_andi_all _ _ _ _ _ hk i

/-- From memories that agree on the three arguments, with every element of the first two finite, the kernel and the
    reference over the extended reals both run, leave equal results and keep their arguments. -/
theorem algebraic : Cert.algebraic_KernelIdeal_ReferenceIdeal_pre_finite_qk (hPre_finite_qk := facts_finite_qk) := by
  letI := facts_finite_qk
  intro m g m' g' hpre hargs
  refine ⟨fun c => KernelRun.kernelResult (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ?_) (KernelRun.run m g)
    obtain ⟨rq, rk⟩ := finite_real _ _ _ (hpre c)
    exact ⟨(h c).1.trans (KernelRun.W7_result m g c _ _ _ rfl rfl rfl rq rk), (h c).2⟩
  · refine (θ_run Cert.ReferenceIdeal.defs _ _).mono (fun r h c => ?_) (Cert.ReferenceIdeal.Value.run (F := Ideal) m' g')
    obtain ⟨rq, rk⟩ := finite_real _ _ _ (hpre c)
    obtain ⟨e0, e1, e2⟩ := hargs c
    exact ⟨(h c).1.trans ((Ref.res_eq m' c _ _ _ e0 e1 e2).trans (Ref.result_eq _ _ _ rq rk).symm), (h c).2⟩

end Cert.Proof

end
-- ==== Proof.lean ====
module

public import proofs.«01_k».proof.Defs
public import proofs.«01_k».proof.Proof.Frames
public import proofs.«01_k».proof.Proof.Value

@[expose] public section

noncomputable section

namespace Cert.Proof

/-- Everything the certificate claims. The frames named with the precondition hold without it. -/
theorem claim : Cert.Claim := ⟨Cert.Kernel.Gen.facts, Cert.KernelIdeal.Gen.facts, Cert.ReferenceIdeal.Gen.facts, facts_finite_qk,
  frame_kernel, frame_kernelIdeal, fun m ρ _ => Cert.KernelIdeal.Gen.frame m ρ, frame_referenceIdeal, fun m g _ => run_referenceIdeal m g,
  preserves, algebraic⟩

end Cert.Proof

end
